-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.Statement Cert.KernelIdeal.S1280x256 Cert.KernelIdeal.S640x256
  ∧ IdealRules.bf16_pair.Statement Cert.KernelIdeal.S320x256 Cert.KernelIdeal.S160x256
  ∧ IdealRules.bf16_pair.PackStatement Cert.KernelIdeal.S640x256
  ∧ IdealRules.bf16_pair.PackStatement Cert.KernelIdeal.S960x256
  ∧ IdealRules.bf16_pair.Statement Cert.KernelIdeal.S1920x256 Cert.KernelIdeal.S960x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1536x11520 : Shape := ⟨3, ![2, 1536, 11520]⟩
abbrev S11520x960 : Shape := ⟨2, ![11520, 960]⟩
abbrev S180x1920 : Shape := ⟨2, ![180, 1920]⟩
abbrev S11520x64 : Shape := ⟨2, ![11520, 64]⟩
abbrev S64x1920 : Shape := ⟨2, ![64, 1920]⟩
abbrev S180x960 : Shape := ⟨2, ![180, 960]⟩
abbrev S9x20x960 : Shape := ⟨3, ![9, 20, 960]⟩
abbrev S1920x64 : Shape := ⟨2, ![1920, 64]⟩
abbrev S3072x11520 : Shape := ⟨2, ![3072, 11520]⟩
abbrev S64x11520 : Shape := ⟨2, ![64, 11520]⟩
abbrev S960x64 : Shape := ⟨2, ![960, 64]⟩
abbrev S3072x1920 : Shape := ⟨2, ![3072, 1920]⟩
abbrev S3072x5760 : Shape := ⟨2, ![3072, 5760]⟩
abbrev S3072x180 : Shape := ⟨2, ![3072, 180]⟩
abbrev S256x1280 : Shape := ⟨2, ![256, 1280]⟩
abbrev S1280x960 : Shape := ⟨2, ![1280, 960]⟩
abbrev S1x20x960 : Shape := ⟨3, ![1, 20, 960]⟩
abbrev S256x1920 : Shape := ⟨2, ![256, 1920]⟩
abbrev S256x640 : Shape := ⟨2, ![256, 640]⟩
abbrev S256x180 : Shape := ⟨2, ![256, 180]⟩
abbrev S960x11520 : Shape := ⟨2, ![960, 11520]⟩
abbrev S960x256 : Shape := ⟨2, ![960, 256]⟩
abbrev S64x256 : Shape := ⟨2, ![64, 256]⟩
abbrev S9x20x256 : Shape := ⟨3, ![9, 20, 256]⟩
abbrev S20x960 : Shape := ⟨2, ![20, 960]⟩
abbrev S20x64x960 : Shape := ⟨3, ![20, 64, 960]⟩
abbrev S20x1x960 : Shape := ⟨3, ![20, 1, 960]⟩
abbrev S960x1280 : Shape := ⟨2, ![960, 1280]⟩
abbrev S1280x256 : Shape := ⟨2, ![1280, 256]⟩
abbrev S640x256 : Shape := ⟨2, ![640, 256]⟩
abbrev S20x4x16x256 : Shape := ⟨4, ![20, 4, 16, 256]⟩
abbrev S20x1x16x256 : Shape := ⟨4, ![20, 1, 16, 256]⟩
abbrev S20x16x256 : Shape := ⟨3, ![20, 16, 256]⟩
abbrev S320x256 : Shape := ⟨2, ![320, 256]⟩
abbrev S160x256 : Shape := ⟨2, ![160, 256]⟩
abbrev S20x8x256 : Shape := ⟨3, ![20, 8, 256]⟩
abbrev S20x256 : Shape := ⟨2, ![20, 256]⟩
abbrev S20x1x256 : Shape := ⟨3, ![20, 1, 256]⟩
abbrev S20x32x256 : Shape := ⟨3, ![20, 32, 256]⟩
abbrev S20x64x256 : Shape := ⟨3, ![20, 64, 256]⟩
abbrev S1x20x256 : Shape := ⟨3, ![1, 20, 256]⟩
abbrev S64x1280 : Shape := ⟨2, ![64, 1280]⟩
abbrev S1920x256 : Shape := ⟨2, ![1920, 256]⟩
abbrev S180x256 : Shape := ⟨2, ![180, 256]⟩

abbrev nBuf : Space → Nat
  | .hbm => 23
  | .vmem => 27
  | .smem => 0
  | _ => 0

abbrev bufTy : (tb : Table) → Fin (tcTables nBuf tb) → BufTy
  | .hbm, ⟨0, _⟩ => ⟨S2x1536x11520, .bf16⟩
  | .hbm, ⟨1, _⟩ => ⟨S11520x960, .i8⟩
  | .hbm, ⟨2, _⟩ => ⟨S180x1920, .f32⟩
  | .hbm, ⟨3, _⟩ => ⟨S180x1920, .bf16⟩
  | .hbm, ⟨4, _⟩ => ⟨S11520x64, .bf16⟩
  | .hbm, ⟨5, _⟩ => ⟨S64x1920, .bf16⟩
  | .hbm, ⟨6, _⟩ => ⟨S180x1920, .bf16⟩
  | .hbm, ⟨7, _⟩ => ⟨S180x960, .bf16⟩
  | .hbm, ⟨8, _⟩ => ⟨S9x20x960, .bf16⟩
  | .hbm, ⟨9, _⟩ => ⟨S180x960, .bf16⟩
  | .hbm, ⟨10, _⟩ => ⟨S9x20x960, .bf16⟩
  | .hbm, ⟨11, _⟩ => ⟨S180x960, .bf16⟩
  | .hbm, ⟨12, _⟩ => ⟨S9x20x960, .bf16⟩
  | .hbm, ⟨13, _⟩ => ⟨S180x960, .bf16⟩
  | .hbm, ⟨14, _⟩ => ⟨S9x20x960, .bf16⟩
  | .hbm, ⟨15, _⟩ => ⟨S1920x64, .bf16⟩
  | .hbm, ⟨16, _⟩ => ⟨S3072x11520, .bf16⟩
  | .hbm, ⟨17, _⟩ => ⟨S64x11520, .bf16⟩
  | .hbm, ⟨18, _⟩ => ⟨S960x64, .bf16⟩
  | .hbm, ⟨19, _⟩ => ⟨S960x64, .bf16⟩
  | .hbm, ⟨20, _⟩ => ⟨S3072x1920, .bf16⟩
  | .hbm, ⟨21, _⟩ => ⟨S3072x5760, .i8⟩
  | .hbm, ⟨22, _⟩ => ⟨S3072x180, .f32⟩
  | .local _ .vmem, ⟨0, _⟩ => ⟨S256x1280, .bf16⟩
  | .local _ .vmem, ⟨1, _⟩ => ⟨S256x1280, .bf16⟩
  | .local _ .vmem, ⟨2, _⟩ => ⟨S1280x960, .i8⟩
  | .local _ .vmem, ⟨3, _⟩ => ⟨S1280x960, .i8⟩
  | .local _ .vmem, ⟨4, _⟩ => ⟨S1x20x960, .bf16⟩
  | .local _ .vmem, ⟨5, _⟩ => ⟨S1x20x960, .bf16⟩
  | .local _ .vmem, ⟨6, _⟩ => ⟨S1x20x960, .bf16⟩
  | .local _ .vmem, ⟨7, _⟩ => ⟨S1x20x960, .bf16⟩
  | .local _ .vmem, ⟨8, _⟩ => ⟨S1x20x960, .bf16⟩
  | .local _ .vmem, ⟨9, _⟩ => ⟨S1x20x960, .bf16⟩
  | .local _ .vmem, ⟨10, _⟩ => ⟨S1x20x960, .bf16⟩
  | .local _ .vmem, ⟨11, _⟩ => ⟨S1x20x960, .bf16⟩
  | .local _ .vmem, ⟨12, _⟩ => ⟨S64x11520, .bf16⟩
  | .local _ .vmem, ⟨13, _⟩ => ⟨S960x64, .bf16⟩
  | .local _ .vmem, ⟨14, _⟩ => ⟨S960x64, .bf16⟩
  | .local _ .vmem, ⟨15, _⟩ => ⟨S256x1920, .bf16⟩
  | .local _ .vmem, ⟨16, _⟩ => ⟨S256x1920, .bf16⟩
  | .local _ .vmem, ⟨17, _⟩ => ⟨S256x640, .i8⟩
  | .local _ .vmem, ⟨18, _⟩ => ⟨S256x640, .i8⟩
  | .local _ .vmem, ⟨19, _⟩ => ⟨S256x180, .f32⟩
  | .local _ .vmem, ⟨20, _⟩ => ⟨S256x180, .f32⟩
  | .local _ .vmem, ⟨21, _⟩ => ⟨S960x11520, .bf16⟩
  | .local _ .vmem, ⟨22, _⟩ => ⟨S960x11520, .bf16⟩
  | .local _ .vmem, ⟨23, _⟩ => ⟨S960x256, .f32⟩
  | .local _ .vmem, ⟨24, _⟩ => ⟨S960x256, .f32⟩
  | .local _ .vmem, ⟨25, _⟩ => ⟨S64x256, .f32⟩
  | .local _ .vmem, ⟨26, _⟩ => ⟨S9x20x256, .f32⟩
  | _, _ => ⟨S2x1536x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [BitOps F]

abbrev grid0 : Pipeline.Grid := ⟨2, ![12, 9], ![false, false]⟩

def k0_mult1 (i : grid0.Coords) : BitVec 32 :=
  let arg1 : BitVec 32 := BitVec.ofNat 32 (i 1).val
  let c1280_i32 : BitVec 32 := 1280#32
  let v0 : BitVec 32 := Scalar.muli arg1 c1280_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let c0_46 : Index := 0#32
  let arg1 : BitVec 32 := BitVec.ofNat 32 (i 1).val
  let c1280_i32 : BitVec 32 := 1280#32
  let v0 : BitVec 32 := Scalar.muli arg1 c1280_i32
  let v1 : BitVec 32 := v0
  let v141 : Index := Scalar.indexCast v1
  ![0, v141.toNat]
def k0_off2 (i : grid0.Coords) : Fin 3 → Nat :=
  let arg1 : BitVec 32 := BitVec.ofNat 32 (i 1).val
  let v92 : Index := Scalar.indexCast arg1
  let c0_17 : Index := 0#32
  let c0_18 : Index := 0#32
  ![v92.toNat, 0, 0]
def k0_off3 (i : grid0.Coords) : Fin 2 → Nat :=
  let c0_21 : Index := 0#32
  let arg1 : BitVec 32 := BitVec.ofNat 32 (i 1).val
  let c1280_i32 : BitVec 32 := 1280#32
  let v0 : BitVec 32 := Scalar.muli arg1 c1280_i32
  let v1 : BitVec 32 := v0
  let v97 : Index := Scalar.indexCast v1
  ![0, v97.toNat]
def k0_off4 (i : grid0.Coords) : Fin 2 → Nat :=
  let c0_33 : Index := 0#32
  let arg1 : BitVec 32 := BitVec.ofNat 32 (i 1).val
  let c1280_i32 : BitVec 32 := 1280#32
  let v0 : BitVec 32 := Scalar.muli arg1 c1280_i32
  let v1 : BitVec 32 := v0
  let v113 : Index := Scalar.indexCast v1
  ![0, v113.toNat]
def k0_cond3 (i : grid0.Coords) : BitVec 1 :=
  let arg1 : BitVec 32 := BitVec.ofNat 32 (i 1).val
  let c8_i32 : BitVec 32 := 8#32
  let v121 : BitVec 1 := Scalar.cmpi .eq arg1 c8_i32
  let v122 : BitVec 32 := Scalar.extui v121
  let c0_i32_37 : BitVec 32 := 0#32
  let v123 : BitVec 1 := Scalar.cmpi .ne v122 c0_i32_37
  v123

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let v1 : BitVec 32 := Scalar.select v0 arg1 c8_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let v1 : BitVec 32 := Scalar.select v0 arg1 c8_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let v1 : BitVec 32 := Scalar.select v0 arg1 c8_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let v1 : BitVec 32 := Scalar.select v0 arg1 c8_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let v1 : BitVec 32 := Scalar.select v0 arg1 c8_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1280x960 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x20x960 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x20x960 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x20x960 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x20x960 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S64x11520 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S960x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S960x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1920 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x640 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x180 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F]
-- ==== ReferenceIdeal.lean ====
abbrev S2x1536x11520 : Shape := ⟨3, ![2, 1536, 11520]⟩
abbrev S11520x960 : Shape := ⟨2, ![11520, 960]⟩
abbrev S180x1920 : Shape := ⟨2, ![180, 1920]⟩
abbrev S11520x64 : Shape := ⟨2, ![11520, 64]⟩
abbrev S64x1920 : Shape := ⟨2, ![64, 1920]⟩
abbrev S2x1536x180x64 : Shape := ⟨4, ![2, 1536, 180, 64]⟩
abbrev S_ : Shape := ⟨0, ![]⟩
abbrev S2x1536x180 : Shape := ⟨3, ![2, 1536, 180]⟩
abbrev S2x1536x180x1 : Shape := ⟨4, ![2, 1536, 180, 1]⟩
abbrev S180x960 : Shape := ⟨2, ![180, 960]⟩
abbrev S180x64x960 : Shape := ⟨3, ![180, 64, 960]⟩
abbrev S180x1x960 : Shape := ⟨3, ![180, 1, 960]⟩
abbrev S2x1536x960 : Shape := ⟨3, ![2, 1536, 960]⟩
abbrev S2x1536x960x1 : Shape := ⟨4, ![2, 1536, 960, 1]⟩
abbrev S2x1536x960x2 : Shape := ⟨4, ![2, 1536, 960, 2]⟩
abbrev S2x1536x64 : Shape := ⟨3, ![2, 1536, 64]⟩
abbrev S2x1536x1920 : Shape := ⟨3, ![2, 1536, 1920]⟩
abbrev S2x1536x5760 : Shape := ⟨3, ![2, 1536, 5760]⟩
abbrev S3072x1920 : Shape := ⟨2, ![3072, 1920]⟩
abbrev S3072x5760 : Shape := ⟨2, ![3072, 5760]⟩
abbrev S3072x180 : Shape := ⟨2, ![3072, 180]⟩

abbrev nBuf : Space → Nat
  | .hbm => 103
  | .vmem => 0
  | .smem => 0
  | _ => 0

abbrev bufTy : (tb : Table) → Fin (tcTables nBuf tb) → BufTy
  | .hbm, ⟨0, _⟩ => ⟨S2x1536x11520, .bf16⟩
  | .hbm, ⟨1, _⟩ => ⟨S11520x960, .i8⟩
  | .hbm, ⟨2, _⟩ => ⟨S180x1920, .f32⟩
  | .hbm, ⟨3, _⟩ => ⟨S180x1920, .bf16⟩
  | .hbm, ⟨4, _⟩ => ⟨S11520x64, .bf16⟩
  | .hbm, ⟨5, _⟩ => ⟨S64x1920, .bf16⟩
  | .hbm, ⟨6, _⟩ => ⟨S2x1536x11520, .f32⟩
  | .hbm, ⟨7, _⟩ => ⟨S2x1536x180x64, .f32⟩
  | .hbm, ⟨8, _⟩ => ⟨S2x1536x180x64, .f32⟩
  | .hbm, ⟨9, _⟩ => ⟨S_, .f32⟩
  | .hbm, ⟨10, _⟩ => ⟨S2x1536x180, .f32⟩
  | .hbm, ⟨11, _⟩ => ⟨S_, .f32⟩
  | .hbm, ⟨12, _⟩ => ⟨S2x1536x180, .f32⟩
  | .hbm, ⟨13, _⟩ => ⟨S2x1536x180, .i1⟩
  | .hbm, ⟨14, _⟩ => ⟨S_, .f32⟩
  | .hbm, ⟨15, _⟩ => ⟨S2x1536x180, .f32⟩
  | .hbm, ⟨16, _⟩ => ⟨S2x1536x180, .f32⟩
  | .hbm, ⟨17, _⟩ => ⟨S_, .f32⟩
  | .hbm, ⟨18, _⟩ => ⟨S_, .f32⟩
  | .hbm, ⟨19, _⟩ => ⟨S2x1536x180, .f32⟩
  | .hbm, ⟨20, _⟩ => ⟨S2x1536x180, .f32⟩
  | .hbm, ⟨21, _⟩ => ⟨S2x1536x180x1, .f32⟩
  | .hbm, ⟨22, _⟩ => ⟨S2x1536x180x64, .f32⟩
  | .hbm, ⟨23, _⟩ => ⟨S2x1536x180x64, .f32⟩
  | .hbm, ⟨24, _⟩ => ⟨S2x1536x180x64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2x1536x180x64, .f32⟩
  | .hbm, ⟨29, _⟩ => ⟨S2x1536x180x64, .f32⟩
  | .hbm, ⟨30, _⟩ => ⟨S_, .f32⟩
  | .hbm, ⟨31, _⟩ => ⟨S2x1536x180x64, .f32⟩
  | .hbm, ⟨32, _⟩ => ⟨S2x1536x180x64, .f32⟩
  | .hbm, ⟨33, _⟩ => ⟨S2x1536x180x64, .i32⟩
  | .hbm, ⟨34, _⟩ => ⟨S2x1536x11520, .i32⟩
  | .hbm, ⟨35, _⟩ => ⟨S2x1536x11520, .i32⟩
  | .hbm, ⟨36, _⟩ => ⟨S2x1536x180, .f32⟩
  | .hbm, ⟨37, _⟩ => ⟨S2x1536x180x64, .i32⟩
  | .hbm, ⟨38, _⟩ => ⟨S2x1536x180x64, .bf16⟩
  | .hbm, ⟨39, _⟩ => ⟨S2x1536x180, .bf16⟩
  | .hbm, ⟨40, _⟩ => ⟨S2x1536x180x1, .bf16⟩
  | .hbm, ⟨41, _⟩ => ⟨S2x1536x180x64, .bf16⟩
  | .hbm, ⟨42, _⟩ => ⟨S2x1536x180x64, .bf16⟩
  | .hbm, ⟨43, _⟩ => ⟨S2x1536x11520, .bf16⟩
  | .hbm, ⟨44, _⟩ => ⟨S11520x960, .i32⟩
  | .hbm, ⟨45, _⟩ => ⟨S_, .i32⟩
  | .hbm, ⟨46, _⟩ => ⟨S11520x960, .i32⟩
  | .hbm, ⟨47, _⟩ => ⟨S11520x960, .i32⟩
  | .hbm, ⟨48, _⟩ => ⟨S180x960, .f32⟩
  | .hbm, ⟨49, _⟩ => ⟨S180x960, .bf16⟩
  | .hbm, ⟨50, _⟩ => ⟨S11520x960, .bf16⟩
  | .hbm, ⟨51, _⟩ => ⟨S180x64x960, .bf16⟩
  | .hbm, ⟨52, _⟩ => ⟨S180x1x960, .bf16⟩
  | .hbm, ⟨53, _⟩ => ⟨S180x64x960, .bf16⟩
  | .hbm, ⟨54, _⟩ => ⟨S180x64x960, .bf16⟩
  | .hbm, ⟨55, _⟩ => ⟨S180x960, .bf16⟩
  | .hbm, ⟨56, _⟩ => ⟨S180x1x960, .bf16⟩
  | .hbm, ⟨57, _⟩ => ⟨S180x64x960, .bf16⟩
  | .hbm, ⟨58, _⟩ => ⟨S180x64x960, .bf16⟩
  | .hbm, ⟨59, _⟩ => ⟨S11520x960, .bf16⟩
  | .hbm, ⟨60, _⟩ => ⟨S_, .i32⟩
  | .hbm, ⟨61, _⟩ => ⟨S11520x960, .i32⟩
  | .hbm, ⟨62, _⟩ => ⟨S11520x960, .i32⟩
  | .hbm, ⟨63, _⟩ => ⟨S180x960, .f32⟩
  | .hbm, ⟨64, _⟩ => ⟨S180x960, .bf16⟩
  | .hbm, ⟨65, _⟩ => ⟨S11520x960, .bf16⟩
  | .hbm, ⟨66, _⟩ => ⟨S180x64x960, .bf16⟩
  | .hbm, ⟨67, _⟩ => ⟨S180x1x960, .bf16⟩
  | .hbm, ⟨68, _⟩ => ⟨S180x64x960, .bf16⟩
  | .hbm, ⟨69, _⟩ => ⟨S180x64x960, .bf16⟩
  | .hbm, ⟨70, _⟩ => ⟨S180x960, .bf16⟩
  | .hbm, ⟨71, _⟩ => ⟨S180x1x960, .bf16⟩
  | .hbm, ⟨72, _⟩ => ⟨S180x64x960, .bf16⟩
  | .hbm, ⟨73, _⟩ => ⟨S180x64x960, .bf16⟩
  | .hbm, ⟨74, _⟩ => ⟨S11520x960, .bf16⟩
  | .hbm, ⟨75, _⟩ => ⟨S2x1536x960, .f32⟩
  | .hbm, ⟨76, _⟩ => ⟨S2x1536x960, .f32⟩
  | .hbm, ⟨77, _⟩ => ⟨S2x1536x960x1, .f32⟩
  | .hbm, ⟨78, _⟩ => ⟨S2x1536x960x1, .f32⟩
  | .hbm, ⟨79, _⟩ => ⟨S2x1536x960x2, .f32⟩
  | .hbm, ⟨80, _⟩ => ⟨S2x1536x64, .f32⟩
  | .hbm, ⟨81, _⟩ => ⟨S2x1536x64, .bf16⟩
  | .hbm, ⟨82, _⟩ => ⟨S2x1536x1920, .f32⟩
  | .hbm, ⟨83, _⟩ => ⟨S2x1536x960x2, .f32⟩
  | .hbm, ⟨84, _⟩ => ⟨S2x1536x960x2, .f32⟩
  | .hbm, ⟨85, _⟩ => ⟨S2x1536x1920, .f32⟩
  | .hbm, ⟨86, _⟩ => ⟨S2x1536x1920, .bf16⟩
  | .hbm, ⟨87, _⟩ => ⟨S2x1536x5760, .i32⟩
  | .hbm, ⟨88, _⟩ => ⟨S_, .i32⟩
  | .hbm, ⟨89, _⟩ => ⟨S2x1536x5760, .i32⟩
  | .hbm, ⟨90, _⟩ => ⟨S2x1536x5760, .i32⟩
  | .hbm, ⟨91, _⟩ => ⟨S2x1536x5760, .i32⟩
  | .hbm, ⟨92, _⟩ => ⟨S_, .i32⟩
  | .hbm, ⟨93, _⟩ => ⟨S2x1536x5760, .i32⟩
  | .hbm, ⟨94, _⟩ => ⟨S2x1536x5760, .i32⟩
  | .hbm, ⟨95, _⟩ => ⟨S_, .i32⟩
  | .hbm, ⟨96, _⟩ => ⟨S2x1536x5760, .i32⟩
  | .hbm, ⟨97, _⟩ => ⟨S2x1536x5760, .i32⟩
  | .hbm, ⟨98, _⟩ => ⟨S2x1536x5760, .i32⟩
  | .hbm, ⟨99, _⟩ => ⟨S2x1536x5760, .i8⟩
  | .hbm, ⟨100, _⟩ => ⟨S3072x1920, .bf16⟩
  | .hbm, ⟨101, _⟩ => ⟨S3072x5760, .i8⟩
  | .hbm, ⟨102, _⟩ => ⟨S3072x180, .f32⟩
  | _, _ => ⟨S2x1536x11520, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_cst_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_6 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_7 : Ref sig .tc := ⟨.hbm, 92, rfl⟩
abbrev main_v69 : Ref sig .tc := ⟨.hbm, 93, rfl⟩
abbrev main_v70 : Ref sig .tc := ⟨.hbm, 94, rfl⟩
abbrev main_c_8 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩

abbrev nD : Nat := 1
abbrev τ : Topo := Topo.v7x

variable {F : FTy → Type} [FloatOps F]
-- ==== Proof.KernelFrame.lean ====
/-
  The FRAME of the printed kernel, hand-written: the body is run once at symbolic operands for each branch the grid
  point takes, its scratch buffers and its three results at some contents before and after every point; the nine
  input windows are handed back as they were found.
-/
module

public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- A memref owned on core `c` at some contents. -/
abbrev some' (c : Dev nD) {S : Shape} {e : EltTy} (M : Memref sig .tc .vmem S e) : sProp 𝕄 :=
  iprop(∃ d, owns (c : Thread nD τ) M fullShare d)

/-- The scratch buffers, each at some contents. -/
abbrev scratch (c : Dev nD) : sProp 𝕄 :=
  iprop(some' c (Memref.whole cc0_scratch0) ∗ some' c (Memref.whole cc0_scratch1) ∗ some' c (Memref.whole cc0_scratch2) ∗ some' c (Memref.whole cc0_scratch3) ∗ some' c (Memref.whole cc0_scratch4) ∗ some' c (Memref.whole cc0_scratch5))

set_option maxHeartbeats 2000000 in
/-- The body at one grid point: from its nine input blocks, and its results and scratch at anything, it runs to its return
    with the input blocks as they were and the rest at something. -/
theorem kernelRun (c : Dev nD) (i : grid0.Coords) (M0 : Memref sig .tc .vmem S256x1280 .bf16) (h0 : M0.IsWhole) (M1 : Memref sig .tc .vmem S1280x960 .i8) (h1 : M1.IsWhole) (M2 : Memref sig .tc .vmem S1x20x960 .bf16) (h2 : M2.IsWhole) (M3 : Memref sig .tc .vmem S1x20x960 .bf16) (h3 : M3.IsWhole) (M4 : Memref sig .tc .vmem S1x20x960 .bf16) (h4 : M4.IsWhole) (M5 : Memref sig .tc .vmem S1x20x960 .bf16) (h5 : M5.IsWhole) (M6 : Memref sig .tc .vmem S64x11520 .bf16) (h6 : M6.IsWhole) (M7 : Memref sig .tc .vmem S960x64 .bf16) (h7 : M7.IsWhole) (M8 : Memref sig .tc .vmem S960x64 .bf16) (h8 : M8.IsWhole) (M9 : Memref sig .tc .vmem S256x1920 .bf16) (h9 : M9.IsWhole) (M10 : Memref sig .tc .vmem S256x640 .i8) (h10 : M10.IsWhole) (M11 : Memref sig .tc .vmem S256x180 .f32) (h11 : M11.IsWhole) (X0 : Vec F S256x1280 .bf16) (X1 : Vec F S1280x960 .i8) (X2 : Vec F S1x20x960 .bf16) (X3 : Vec F S1x20x960 .bf16) (X4 : Vec F S1x20x960 .bf16) (X5 : Vec F S1x20x960 .bf16) (X6 : Vec F S64x11520 .bf16) (X7 : Vec F S960x64 .bf16) (X8 : Vec F S960x64 .bf16) (K : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ some' (F := F) c M9 ∗ some' (F := F) c M10 ∗ some' (F := F) c M11 ∗ scratch (F := F) c
        ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ some' (F := F) c M9 ∗ some' (F := F) c M10 ∗ some' (F := F) c M11 ∗ scratch (F := F) c) -∗ K ⟨⟩))
      ⊢ wp frame (wpE (defs₀ (F := F)) Variants.none c none) Set.univ
          (cc0_w4a4_lowrank i M0 h0 M1 h1 M2 h2 M3 h3 M4 h4 M5 h5 M6 h6 M7 h7 M8 h8 M9 h9 M10 h10 M11 h11 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) K := by
  unfold scratch some' owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, %e9, H9⟩, ⟨%d10, %f10, %e10, H10⟩, ⟨%d11, %f11, %e11, H11⟩, ⟨⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩⟩, Hk⟩
  by_cases c1 : k0_cond1 i = 1#1 <;>
  by_cases c2 : Scalar.cmpi .ne (Scalar.extui (Scalar.cmpi .eq (BitVec.ofNat 32 (i 1).val) 0#32)) 0#32 = 1#1 <;>
  by_cases c3 : k0_cond3 i = 1#1
  all_goals
    sl_exec
    sl_step
    iapply Hk
    isplitl [H0]
    · iexists _; isplitr; swap; · iexact H0
      ipureintro; assumption
    isplitl [H1]
    · iexists _; isplitr; swap; · iexact H1
      ipureintro; assumption
    isplitl [H2]
    · iexists _; isplitr; swap; · iexact H2
      ipureintro; assumption
    isplitl [H3]
    · iexists _; isplitr; swap; · iexact H3
      ipureintro; assumption
    isplitl [H4]
    · iexists _; isplitr; swap; · iexact H4
      ipureintro; assumption
    isplitl [H5]
    · iexists _; isplitr; swap; · iexact H5
      ipureintro; assumption
    isplitl [H6]
    · iexists _; isplitr; swap; · iexact H6
      ipureintro; assumption
    isplitl [H7]
    · iexists _; isplitr; swap; · iexact H7
      ipureintro; assumption
    isplitl [H8]
    · iexists _; isplitr; swap; · iexact H8
      ipureintro; assumption
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

/-! ## The proof data and the body obligation -/

/-- The three results FORGOTTEN: the frame reads nothing of what the kernel leaves in them. -/
def forgets0 : Fin 12 → Bool
  | 9 => true
  | 10 => true
  | 11 => true
  | _ => false

/-- The proof data on core `c`: every array as the region finds it, every input block left in place, nothing said of
    the results, the class invariant, full shares, nothing owed. -/
def dats (_ : Fin 1) (c : Dev nD) : Dat τ (Elt F) Unit ℕ (UR sig nD τ) ℕ cfg0 c where
  A w := V m c (Pipeline.arrRef spec0 w)
  after
    | 9 => Pipeline.Dat.unnamed (cfg := cfg0) 9
    | 10 => Pipeline.Dat.unnamed (cfg := cfg0) 10
    | 11 => Pipeline.Dat.unnamed (cfg := cfg0) 11
    | 0 => iblk m c 0
    | 1 => iblk m c 1
    | 2 => iblk m c 2
    | 3 => iblk m c 3
    | 4 => iblk m c 4
    | 5 => iblk m c 5
    | 6 => iblk m c 6
    | 7 => iblk m c 7
    | 8 => iblk m c 8
  Φ _ := Pipeline.ΦA spec0 c
  q _ := fullShare
  owed _ := 0

theorem A_eq (c : Dev nD) (w : Fin cfg0.W) : (dats m 0 c).A w = V m c (Pipeline.arrRef spec0 w) := rfl

/-- The invariant's scratch part is the scratch buffers at some contents. -/
theorem scratch_eq (c : Dev nD) : (Pipeline.scopedRest spec0 c : sProp 𝕄) = scratch (F := F) c := by
  rw [scopedRest0_eq]; unfold scratch some'; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ X, owns (c : Thread nD τ) (st0_9 t) fullShare X) ∗ (∃ X, owns (c : Thread nD τ) (st0_10 t) fullShare X) ∗ (∃ X, owns (c : Thread nD τ) (st0_11 t) fullShare X))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ (∃ X, owns (c : Thread nD τ) (st0_9 t) fullShare X) ∗ (∃ X, owns (c : Thread nD τ) (st0_10 t) fullShare X) ∗ (∃ X, owns (c : Thread nD τ) (st0_11 t) fullShare X))

set_option maxHeartbeats 2000000 in
/-- The body at the point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  have b0 := fun d => before0_0_of m (dats m 0 c) rfl (fun _ => rfl) t d
  have b1 := fun d => before0_1_of m (dats m 0 c) rfl (fun _ => rfl) t d
  have b2 := fun d => before0_2_of m (dats m 0 c) rfl (fun _ => rfl) t d
  have b3 := fun d => before0_3_of m (dats m 0 c) rfl (fun _ => rfl) t d
  have b4 := fun d => before0_4_of m (dats m 0 c) rfl (fun _ => rfl) t d
  have b5 := fun d => before0_5_of m (dats m 0 c) rfl (fun _ => rfl) t d
  have b6 := fun d => before0_6_of m (dats m 0 c) rfl (fun _ => rfl) t d
  have b7 := fun d => before0_7_of m (dats m 0 c) rfl (fun _ => rfl) t d
  have b8 := fun d => before0_8_of m (dats m 0 c) rfl (fun _ => rfl) t d
  unfold bodyPre bodyPost bodyAt0
  simp only [b0, b1, b2, b3, b4, b5, b6, b7, b8]
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl]
  unfold Pipeline.ΦA
  rw [scratch_eq]
  iintro ⟨⟨HS, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11⟩
  iapply (kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]; · iexact HS
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the three results forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

-- the run theorem's implicit arguments are found by unifying its conclusion with this statement, which unifies only
-- when unification may unfold plain definitions in a metavariable's type
set_option backward.isDefEq.respectTransparency.types false in
/-- From any memory with zero counters every weakly fair execution of @main terminates; at the end every buffer that is
    no result holds what the region found in it and every counter is at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the packed weights hold what they held at launch: they are an input window's array. -/
theorem final_arg1 {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg1) = m ((c.tc : Thread nD τ).loc main_arg1) := by
  have h1 : r.2.mem ((c.tc : Thread nD τ).loc main_arg1) = V m c main_arg1 :=
    Pipeline.RDat.FramePost.arr_in (cfg₁ := cfgs 0) (rdat := fun c => (dats (F := F) m 0 c).toRForget forgets0) h c (1 : Fin 12) rfl
  rw [h1, V_main_arg1]

/-- Every argument array ends as launched, and every counter at zero. -/
theorem run_args :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
    final_arg1 m h.1 c,
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩, h.2⟩) (run_main m ρ)

end Cert.Kernel.Hand

end
-- ==== Proof.Run.lean ====
/-
  The idealized kernel's body run once at symbolic operands, with what it leaves named: the two weight scratches with
  this point's strip put in (on the first row of the grid), the three accumulators with this point's products added
  (from zero on the first column), the scale scratch with this point's row put in, the packed codes, and on the last
  column the two results read off the scratches.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the branch that clears the accumulators: the point is on the grid's first column. -/
def cond2 (i : grid0.Coords) : Prop :=
  Scalar.cmpi .ne (Scalar.extui (Scalar.cmpi .eq (BitVec.ofNat 32 (i 1).val) 0#32)) 0#32 = 1#1
instance (i : grid0.Coords) : Decidable (cond2 i) := by unfold cond2; infer_instance

/-- The low-nibble weights after the point: this point's strip put in on the grid's first row. -/
def wLo (i : grid0.Coords) (w : Vec F S1280x960 .i8) (s z : Vec F S1x20x960 .bf16) (d : Vec F S960x11520 .bf16) : Vec F S960x11520 .bf16 :=
  if k0_cond1 i = 1#1 then VecWindow.put d (k0_off1 i) S960x1280.size (k0_pay1 w s z) else d
/-- The high-nibble weights after the point. -/
def wHi (i : grid0.Coords) (w : Vec F S1280x960 .i8) (s z : Vec F S1x20x960 .bf16) (d : Vec F S960x11520 .bf16) : Vec F S960x11520 .bf16 :=
  if k0_cond1 i = 1#1 then VecWindow.put d (k0_off1 i) S960x1280.size (k0_pay3 (k0_pay2 w s z)) else d
/-- The dequantized activations of the point, transposed. -/
def xdq (x : Vec F S256x1280 .bf16) : FVec F S1280x256 .bf16 := k0_pay14 (k0_pay8 x) (k0_pay9 x) (k0_pay10 x)
/-- The packed codes of the point. -/
def codes (x : Vec F S256x1280 .bf16) : Vec F S256x640 .i8 := k0_pay15 (k0_pay8 x) (k0_pay9 x) (k0_pay10 x)
/-- The strip of a weight scratch the point multiplies by. -/
def strip (i : grid0.Coords) (d : Vec F S960x11520 .bf16) : Vec F S960x1280 .bf16 :=
  VecWindow.window d (k0_off3 i) S960x1280.size (k0_off3_inb i)
/-- The strip of the first low-rank factor the point multiplies by. -/
def stripL (i : grid0.Coords) (l : Vec F S64x11520 .bf16) : Vec F S64x1280 .bf16 :=
  VecWindow.window l (k0_off4 i) S64x1280.size (k0_off4_inb i)
/-- The low accumulator after the point. -/
def aLo (i : grid0.Coords) (x : Vec F S256x1280 .bf16) (w : Vec F S960x11520 .bf16) (a : Vec F S960x256 .f32) : Vec F S960x256 .f32 :=
  k0_pay17 (xdq x) (if cond2 i then k0_pay4 else a) (strip i w)
/-- The high accumulator after the point. -/
def aHi (i : grid0.Coords) (x : Vec F S256x1280 .bf16) (w : Vec F S960x11520 .bf16) (a : Vec F S960x256 .f32) : Vec F S960x256 .f32 :=
  k0_pay18 (xdq x) (if cond2 i then k0_pay5 else a) (strip i w)
/-- The low-rank accumulator after the point. -/
def aH (i : grid0.Coords) (x : Vec F S256x1280 .bf16) (l : Vec F S64x11520 .bf16) (a : Vec F S64x256 .f32) : Vec F S64x256 .f32 :=
  k0_pay19 (k0_pay7 x) (if cond2 i then k0_pay6 else a) (stripL i l)
/-- The scale scratch after the point. -/
def sc (i : grid0.Coords) (x : Vec F S256x1280 .bf16) (d : Vec F S9x20x256 .f32) : Vec F S9x20x256 .f32 :=
  VecWindow.put d (k0_off2 i) S1x20x256.size (k0_pay16 (k0_pay10 x))

section Reads

variable {κ : Kind} {sp : Space} {e : EltTy} {Val : EltTy → Type}

/-- A load of a whole rank-2 view reads what the view reads. -/
theorem rd2 {d : Fin 2 → ℕ} (v : View sig κ sp ⟨2, d⟩ e) (f : v.ty.Contents Val) (inb) :
    v.readAt Val (Rect.unit (s := ⟨2, d⟩) ![0, 0] d inb).toLoadRect f = v.read Val f := View.readAt_full v f inb
/-- A load of a whole rank-3 view reads what the view reads. -/
theorem rd3 {d : Fin 3 → ℕ} (v : View sig κ sp ⟨3, d⟩ e) (f : v.ty.Contents Val) (inb) :
    v.readAt Val (Rect.unit (s := ⟨3, d⟩) ![0, 0, 0] d inb).toLoadRect f = v.read Val f := View.readAt_full v f inb
/-- A store of a whole rank-2 view leaves the payload. -/
theorem wr2 {d : Fin 2 → ℕ} (v : View sig κ sp ⟨2, d⟩ e) (f : v.ty.Contents Val) (inb) (w) (L) :
    v.read Val (v.writes Val f (⟨Rect.unit (s := ⟨2, d⟩) ![0, 0] d inb, w⟩ :: L)) = w := View.read_writes_full v f inb w L
/-- A load of a part reads that window of what the view reads. -/
theorem rdW {s : Shape} (v : View sig κ sp s e) (f : v.ty.Contents Val) (off size : Fin s.rank → ℕ) (inb) :
    v.readAt Val (Rect.unit off size inb).toLoadRect f = VecWindow.window (v.read Val f) off size inb := rfl

end Reads

/-- The strip of the low scratch just stored is what was stored. -/
theorem strip_wLo {i : grid0.Coords} (h : k0_cond1 i = 1#1) (w s z) (d : Vec F S960x11520 .bf16) : strip i (wLo i w s z d) = k0_pay1 w s z := by
  unfold wLo; rw [if_pos h]
  exact VecWindow.window_put_same d (k0_off1 i) S960x1280.size (k0_off3_inb i) (k0_pay1 w s z)
/-- The strip of the high scratch just stored is what was stored. -/
theorem strip_wHi {i : grid0.Coords} (h : k0_cond1 i = 1#1) (w s z) (d : Vec F S960x11520 .bf16) : strip i (wHi i w s z d) = k0_pay3 (k0_pay2 w s z) := by
  unfold wHi; rw [if_pos h]
  exact VecWindow.window_put_same d (k0_off1 i) S960x1280.size (k0_off3_inb i) (k0_pay3 (k0_pay2 w s z))

set_option maxHeartbeats 4000000 in
/-- The body at one grid point, from named contents to named contents. -/
theorem kernelRun (c : Dev nD) (i : grid0.Coords) (M0 : Memref sig .tc .vmem S256x1280 .bf16) (h0 : M0.IsWhole) (M1 : Memref sig .tc .vmem S1280x960 .i8) (h1 : M1.IsWhole) (M2 : Memref sig .tc .vmem S1x20x960 .bf16) (h2 : M2.IsWhole) (M3 : Memref sig .tc .vmem S1x20x960 .bf16) (h3 : M3.IsWhole) (M4 : Memref sig .tc .vmem S1x20x960 .bf16) (h4 : M4.IsWhole) (M5 : Memref sig .tc .vmem S1x20x960 .bf16) (h5 : M5.IsWhole) (M6 : Memref sig .tc .vmem S64x11520 .bf16) (h6 : M6.IsWhole) (M7 : Memref sig .tc .vmem S960x64 .bf16) (h7 : M7.IsWhole) (M8 : Memref sig .tc .vmem S960x64 .bf16) (h8 : M8.IsWhole) (M9 : Memref sig .tc .vmem S256x1920 .bf16) (h9 : M9.IsWhole) (M10 : Memref sig .tc .vmem S256x640 .i8) (h10 : M10.IsWhole) (M11 : Memref sig .tc .vmem S256x180 .f32) (h11 : M11.IsWhole) (X0 : Vec F S256x1280 .bf16) (X1 : Vec F S1280x960 .i8) (X2 : Vec F S1x20x960 .bf16) (X3 : Vec F S1x20x960 .bf16) (X4 : Vec F S1x20x960 .bf16) (X5 : Vec F S1x20x960 .bf16) (X6 : Vec F S64x11520 .bf16) (X7 : Vec F S960x64 .bf16) (X8 : Vec F S960x64 .bf16) (X9 : Vec F S256x1920 .bf16) (X10 : Vec F S256x640 .i8) (X11 : Vec F S256x180 .f32) (s0 : Vec F S960x11520 .bf16) (s1 : Vec F S960x11520 .bf16) (s2 : Vec F S960x256 .f32) (s3 : Vec F S960x256 .f32) (s4 : Vec F S64x256 .f32) (s5 : Vec F S9x20x256 .f32) (K : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) (Memref.whole cc0_scratch0) fullShare s0 ∗ owns (c : Thread nD τ) (Memref.whole cc0_scratch1) fullShare s1 ∗ owns (c : Thread nD τ) (Memref.whole cc0_scratch2) fullShare s2 ∗ owns (c : Thread nD τ) (Memref.whole cc0_scratch3) fullShare s3 ∗ owns (c : Thread nD τ) (Memref.whole cc0_scratch4) fullShare s4 ∗ owns (c : Thread nD τ) (Memref.whole cc0_scratch5) fullShare s5
        ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare (if k0_cond3 i = 1#1 then k0_pay20 (aH i X0 X6 s4) (aLo i X0 (wLo i X1 X2 X4 s0) s2) X7 (aHi i X0 (wHi i X1 X3 X5 s1) s3) X8 else X9) ∗ owns (c : Thread nD τ) M10 fullShare (codes X0) ∗ owns (c : Thread nD τ) M11 fullShare (if k0_cond3 i = 1#1 then k0_pay21 (sc i X0 s5) else X11) ∗ owns (c : Thread nD τ) (Memref.whole cc0_scratch0) fullShare (wLo i X1 X2 X4 s0) ∗ owns (c : Thread nD τ) (Memref.whole cc0_scratch1) fullShare (wHi i X1 X3 X5 s1) ∗ owns (c : Thread nD τ) (Memref.whole cc0_scratch2) fullShare (aLo i X0 (wLo i X1 X2 X4 s0) s2) ∗ owns (c : Thread nD τ) (Memref.whole cc0_scratch3) fullShare (aHi i X0 (wHi i X1 X3 X5 s1) s3) ∗ owns (c : Thread nD τ) (Memref.whole cc0_scratch4) fullShare (aH i X0 X6 s4) ∗ owns (c : Thread nD τ) (Memref.whole cc0_scratch5) fullShare (sc i X0 s5)) -∗ K ⟨⟩))
      ⊢ wp frame (wpE (defs₀ (F := F)) Variants.none c none) Set.univ
          (cc0_w4a4_lowrank i M0 h0 M1 h1 M2 h2 M3 h3 M4 h4 M5 h5 M6 h6 M7 h7 M8 h8 M9 h9 M10 h10 M11 h11 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) K := by
  simp only [cc0_w4a4_lowrank_eq_skeleton]; unfold cc0_w4a4_lowrank_skel
  simp only [k0_part2_eq_skeleton, k0_part3_eq_skeleton, k0_part4_eq_skeleton]; unfold k0_part2_skel k0_part3_skel k0_part4_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, Hk⟩
  by_cases c1 : k0_cond1 i = 1#1 <;>
  by_cases c2 : cond2 i <;>
  by_cases c3 : k0_cond3 i = 1#1
  all_goals
    have c2' := c2
    unfold cond2 at c2'
    sl_exec
    sl_step
    iapply Hk
    isplitl [H0]
    · iexists _; isplitr; swap; · iexact H0
      ipureintro; exact e0
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; isplitr; swap; · iexact H7
      ipureintro; exact e7
    isplitl [H8]
    · iexists _; isplitr; swap; · iexact H8
      ipureintro; exact e8
    isplitl [H9]
    · iexists _; isplitr; swap; · iexact H9
      ipureintro; (
      sl_unfold_words
      dsimp only
      try simp only [rd2, rd3, View.readCov_cons_toLoadRect]
      try simp only [aLo, aHi, strip_wLo c1, strip_wHi c1]
      try simp only [wLo, wHi, aLo, aHi, aH, sc, codes, xdq, c1, c2, c3, if_true, if_false]
      first | with_reducible exact e9 | (refine (wr2 _ _ _ _ _).trans ?_; skip)
      all_goals
        subst e0 e1 e2 e3 e4 e5 e6 e7 e8 e9 e10 e11 e12 e13 e14 e15 e16 e17
        rfl)
    isplitl [H10]
    · iexists _; isplitr; swap; · iexact H10
      ipureintro; (
      sl_unfold_words
      dsimp only
      try simp only [rd2, rd3, View.readCov_cons_toLoadRect]
      try simp only [aLo, aHi, strip_wLo c1, strip_wHi c1]
      try simp only [wLo, wHi, aLo, aHi, aH, sc, codes, xdq, c1, c2, c3, if_true, if_false]
      refine (wr2 _ _ _ _ _).trans ?_
      subst e0 e1 e2 e3 e4 e5 e6 e7 e8 e9 e10 e11 e12 e13 e14 e15 e16 e17
      rfl)
    isplitl [H11]
    · iexists _; isplitr; swap; · iexact H11
      ipureintro; (
      sl_unfold_words
      dsimp only
      try simp only [rd2, rd3, View.readCov_cons_toLoadRect]
      try simp only [aLo, aHi, strip_wLo c1, strip_wHi c1]
      try simp only [wLo, wHi, aLo, aHi, aH, sc, codes, xdq, c1, c2, c3, if_true, if_false]
      first | with_reducible exact e11 | (refine (wr2 _ _ _ _ _).trans (congrArg k0_pay21 ((View.read_writes_cons_put _ _ _ _ _ rfl).trans ?_)); skip)
      all_goals
        subst e0 e1 e2 e3 e4 e5 e6 e7 e8 e9 e10 e11 e12 e13 e14 e15 e16 e17
        rfl)
    isplitl [H12]
    · iexists _; isplitr; swap; · iexact H12
      ipureintro; (
      sl_unfold_words
      dsimp only
      try simp only [rd2, rd3, View.readCov_cons_toLoadRect]
      try simp only [aLo, aHi, strip_wLo c1, strip_wHi c1]
      try simp only [wLo, wHi, aLo, aHi, aH, sc, codes, xdq, c1, c2, c3, if_true, if_false]
      first | with_reducible exact e12 | (refine (View.read_writes_cons_put _ _ _ _ _ rfl).trans ?_; skip)
      all_goals
        subst e0 e1 e2 e3 e4 e5 e6 e7 e8 e9 e10 e11 e12 e13 e14 e15 e16 e17
        rfl)
    isplitl [H13]
    · iexists _; isplitr; swap; · iexact H13
      ipureintro; (
      sl_unfold_words
      dsimp only
      try simp only [rd2, rd3, View.readCov_cons_toLoadRect]
      try simp only [aLo, aHi, strip_wLo c1, strip_wHi c1]
      try simp only [wLo, wHi, aLo, aHi, aH, sc, codes, xdq, c1, c2, c3, if_true, if_false]
      first | with_reducible exact e13 | (refine (View.read_writes_cons_put _ _ _ _ _ rfl).trans ?_; skip)
      all_goals
        subst e0 e1 e2 e3 e4 e5 e6 e7 e8 e9 e10 e11 e12 e13 e14 e15 e16 e17
        rfl)
    isplitl [H14]
    · iexists _; isplitr; swap; · iexact H14
      ipureintro; (
      sl_unfold_words
      dsimp only
      try simp only [rd2, rd3, View.readCov_cons_toLoadRect]
      try simp only [aLo, aHi, strip_wLo c1, strip_wHi c1]
      try simp only [wLo, wHi, aLo, aHi, aH, sc, codes, xdq, c1, c2, c3, if_true, if_false]
      refine (wr2 _ _ _ _ _).trans ?_
      subst e0 e1 e2 e3 e4 e5 e6 e7 e8 e9 e10 e11 e12 e13 e14 e15 e16 e17
      rfl)
    isplitl [H15]
    · iexists _; isplitr; swap; · iexact H15
      ipureintro; (
      sl_unfold_words
      dsimp only
      try simp only [rd2, rd3, View.readCov_cons_toLoadRect]
      try simp only [aLo, aHi, strip_wLo c1, strip_wHi c1]
      try simp only [wLo, wHi, aLo, aHi, aH, sc, codes, xdq, c1, c2, c3, if_true, if_false]
      refine (wr2 _ _ _ _ _).trans ?_
      subst e0 e1 e2 e3 e4 e5 e6 e7 e8 e9 e10 e11 e12 e13 e14 e15 e16 e17
      rfl)
    isplitl [H16]
    · iexists _; isplitr; swap; · iexact H16
      ipureintro; (
      sl_unfold_words
      dsimp only
      try simp only [rd2, rd3, View.readCov_cons_toLoadRect]
      try simp only [aLo, aHi, strip_wLo c1, strip_wHi c1]
      try simp only [wLo, wHi, aLo, aHi, aH, sc, codes, xdq, c1, c2, c3, if_true, if_false]
      refine (wr2 _ _ _ _ _).trans ?_
      subst e0 e1 e2 e3 e4 e5 e6 e7 e8 e9 e10 e11 e12 e13 e14 e15 e16 e17
      rfl)
    iexists _; isplitr; swap; · iexact H17
    ipureintro; (
      sl_unfold_words
      dsimp only
      try simp only [rd2, rd3, View.readCov_cons_toLoadRect]
      try simp only [aLo, aHi, strip_wLo c1, strip_wHi c1]
      try simp only [wLo, wHi, aLo, aHi, aH, sc, codes, xdq, c1, c2, c3, if_true, if_false]
      refine (View.read_writes_cons_put _ _ _ _ _ rfl).trans ?_
      subst e0 e1 e2 e3 e4 e5 e6 e7 e8 e9 e10 e11 e12 e13 e14 e15 e16 e17
      rfl)

end Cert.KernelIdeal.Hand

end
-- ==== Proof.Inv.lean ====
/-
  What the kernel's scratches hold before each grid point. The grid is walked row by row (12 rows of 9 columns); point
  `n` is in column `n % 9` of row `n / 9`. The weight scratches are filled strip by strip along the first row and stay;
  the accumulators run along each row; the scale scratch is filled along each row.
-/
module

public import proofs.«01_k».proof.Proof.Run
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)

/-! ## The grid's points -/

/-- The grid point numbered `n` (modulo their count). -/
def pt (n : ℕ) : Fin cfg0.N := ⟨n % 108, Nat.mod_lt n (by decide)⟩

theorem tlt (t : Fin cfg0.N) : t.val < 108 := t.isLt
theorem pt_val (t : Fin cfg0.N) : pt t.val = t := Fin.ext (Nat.mod_eq_of_lt t.isLt)

theorem cond1_iff : ∀ t : Fin cfg0.N, k0_cond1 (grid0.coords t) = 1#1 ↔ t.val < 9 :=
  (by decide +kernel : ∀ t : Fin grid0.N, k0_cond1 (grid0.coords t) = 1#1 ↔ t.val < 9)
theorem cond2_iff : ∀ t : Fin cfg0.N, cond2 (grid0.coords t) ↔ t.val % 9 = 0 :=
  (by decide +kernel : ∀ t : Fin grid0.N, cond2 (grid0.coords t) ↔ t.val % 9 = 0)
theorem cond3_iff : ∀ t : Fin cfg0.N, k0_cond3 (grid0.coords t) = 1#1 ↔ t.val % 9 = 8 :=
  (by decide +kernel : ∀ t : Fin grid0.N, k0_cond3 (grid0.coords t) = 1#1 ↔ t.val % 9 = 8)
theorem off1_eq : ∀ t : Fin cfg0.N, k0_off1 (grid0.coords t) = ![0, 1280 * (t.val % 9)] :=
  (by decide +kernel : ∀ t : Fin grid0.N, k0_off1 (grid0.coords t) = ![0, 1280 * (t.val % 9)])
theorem off2_eq : ∀ t : Fin cfg0.N, k0_off2 (grid0.coords t) = ![t.val % 9, 0, 0] :=
  (by decide +kernel : ∀ t : Fin grid0.N, k0_off2 (grid0.coords t) = ![t.val % 9, 0, 0])
theorem off3_eq : ∀ t : Fin cfg0.N, k0_off3 (grid0.coords t) = ![0, 1280 * (t.val % 9)] :=
  (by decide +kernel : ∀ t : Fin grid0.N, k0_off3 (grid0.coords t) = ![0, 1280 * (t.val % 9)])
theorem off4_eq : ∀ t : Fin cfg0.N, k0_off4 (grid0.coords t) = ![0, 1280 * (t.val % 9)] :=
  (by decide +kernel : ∀ t : Fin grid0.N, k0_off4 (grid0.coords t) = ![0, 1280 * (t.val % 9)])

/-! ## A strip put into a filled part, and a strip read from it -/

/-- The column of a weight scratch within its strip. -/
def inStrip (x : S960x11520.Idx) : S960x1280.Idx := ix2 (x 0) ⟨(x 1).val % 1280, Nat.mod_lt _ (by decide)⟩

/-- The strips put side by side. -/
def glue (w : ℕ → Vec F S960x1280 .bf16) : Vec F S960x11520 .bf16 := fun x => w ((x 1).val / 1280) (inStrip x)

/-- Putting strip `n` extends the part filled with `glue w` by one strip. -/
theorem put_glue (w : ℕ → Vec F S960x1280 .bf16) (d : Vec F S960x11520 .bf16) (off : Fin 2 → ℕ) (n : ℕ) (ho : off = ![0, 1280 * n])
    (h : ∀ x : S960x11520.Idx, (x 1).val < 1280 * n → d x = glue w x) (x : S960x11520.Idx) (hx : (x 1).val < 1280 * (n + 1)) :
    VecWindow.put d off S960x1280.size (w n) x = glue w x := by
  subst ho
  by_cases hl : (x 1).val < 1280 * n
  · refine (dif_neg fun hh => ?_).trans (h x hl)
    have := (hh 1).1
    change 1280 * n ≤ (x 1).val at this
    omega
  · have hb : ∀ a : Fin 2, (![0, 1280 * n] : Fin 2 → ℕ) a ≤ (x a).val ∧ (x a).val < (![0, 1280 * n] : Fin 2 → ℕ) a + S960x1280.size a := by
      intro a
      match a with
      | ⟨0, _⟩ => exact ⟨Nat.zero_le _, by have := (x 0).isLt; change (x 0).val < 960 at this; change (x 0).val < 0 + 960; omega⟩
      | ⟨1, _⟩ => exact ⟨by change 1280 * n ≤ (x 1).val; omega, by change (x 1).val < 1280 * n + 1280; omega⟩
    refine (dif_pos hb).trans ?_
    unfold glue
    have hd : (x 1).val / 1280 = n := by omega
    rw [hd]
    refine congrArg (w n) (funext fun a => Fin.ext ?_)
    match a with
    | ⟨0, _⟩ => rfl
    | ⟨1, _⟩ =>
      change (x 1).val - 1280 * n = (x 1).val % 1280
      omega

/-- A strip's window inside the filled part reads what the filled part holds. -/
theorem strip_congr (t : Fin cfg0.N) (d d' : Vec F S960x11520 .bf16) (n : ℕ) (hn : t.val % 9 < n)
    (h : ∀ x : S960x11520.Idx, (x 1).val < 1280 * n → d x = d' x) : strip (grid0.coords t) d = strip (grid0.coords t) d' := by
  funext y
  refine h _ ?_
  have ho := congrFun (off3_eq t) 1
  change k0_off3 (grid0.coords t) 1 = 1280 * (t.val % 9) at ho
  have hy : (y 1).val < 1280 := (y 1).isLt
  change k0_off3 (grid0.coords t) 1 + 1 * (y 1).val < 1280 * n
  rw [ho]
  omega

/-! ## The scratches along the grid -/

/-- Strip `n` of the low weights, as the first row stores it. -/
def wLoAt (c : Dev nD) (n : ℕ) : Vec F S960x1280 .bf16 := k0_pay1 (iblk m c 1 (pt n)) (iblk m c 2 (pt n)) (iblk m c 4 (pt n))
/-- Strip `n` of the high weights, as the first row stores it. -/
def wHiAt (c : Dev nD) (n : ℕ) : Vec F S960x1280 .bf16 := k0_pay3 (k0_pay2 (iblk m c 1 (pt n)) (iblk m c 3 (pt n)) (iblk m c 5 (pt n)))
/-- The low weights, all strips. -/
def WLo (c : Dev nD) : Vec F S960x11520 .bf16 := glue (wLoAt m c)
/-- The high weights, all strips. -/
def WHi (c : Dev nD) : Vec F S960x11520 .bf16 := glue (wHiAt m c)

/-- The low accumulator before point `n` (read only inside a row). -/
def accLo (c : Dev nD) : ℕ → Vec F S960x256 .f32
  | 0 => k0_pay4
  | n + 1 => aLo (grid0.coords (pt n)) (iblk m c 0 (pt n)) (WLo m c) (accLo c n)
/-- The high accumulator before point `n`. -/
def accHi (c : Dev nD) : ℕ → Vec F S960x256 .f32
  | 0 => k0_pay5
  | n + 1 => aHi (grid0.coords (pt n)) (iblk m c 0 (pt n)) (WHi m c) (accHi c n)
/-- The low-rank accumulator before point `n`. -/
def accH (c : Dev nD) : ℕ → Vec F S64x256 .f32
  | 0 => k0_pay6
  | n + 1 => aH (grid0.coords (pt n)) (iblk m c 0 (pt n)) (iblk m c 6 (pt n)) (accH c n)
/-- The scale scratch of a whole row of the grid: plane `k` holds the scales of the row's point `k`. -/
def scaleT (c : Dev nD) (r : ℕ) : Vec F S9x20x256 .f32 := fun x =>
  k0_pay16 (k0_pay10 (iblk m c 0 (pt (9 * r + (x 0).val)))) (ix3 (n0 := 1) 0 (x 1) (x 2))

/-- What the scratches hold before point `n`. -/
structure Inv (c : Dev nD) (n : ℕ) (s0 s1 : Vec F S960x11520 .bf16) (s2 s3 : Vec F S960x256 .f32) (s4 : Vec F S64x256 .f32)
    (s5 : Vec F S9x20x256 .f32) : Prop where
  lo : ∀ x : S960x11520.Idx, (x 1).val < 1280 * n → s0 x = WLo m c x
  hi : ∀ x : S960x11520.Idx, (x 1).val < 1280 * n → s1 x = WHi m c x
  eLo : n % 9 ≠ 0 → s2 = accLo m c n
  eHi : n % 9 ≠ 0 → s3 = accHi m c n
  eH : n % 9 ≠ 0 → s4 = accH m c n
  eS : ∀ x : S9x20x256.Idx, (x 0).val < n % 9 → s5 x = scaleT m c (n / 9) x

variable {m} {c : Dev nD} {s0 s1 : Vec F S960x11520 .bf16} {s2 s3 : Vec F S960x256 .f32} {s4 : Vec F S64x256 .f32} {s5 : Vec F S9x20x256 .f32}

/-- Before the first point nothing is asked of the scratches. -/
theorem Inv.zero : Inv m c 0 s0 s1 s2 s3 s4 s5 :=
  ⟨fun x h => absurd h (by omega), fun x h => absurd h (by omega), fun h => absurd rfl h, fun h => absurd rfl h, fun h => absurd rfl h,
    fun x h => absurd h (by omega)⟩

theorem Inv.lo' {t : Fin cfg0.N} (h : Inv m c t.val s0 s1 s2 s3 s4 s5) (x : S960x11520.Idx) (hx : (x 1).val < 1280 * (t.val + 1)) :
    wLo (grid0.coords t) (iblk m c 1 t) (iblk m c 2 t) (iblk m c 4 t) s0 x = WLo m c x := by
  unfold wLo
  by_cases ht : t.val < 9
  · rw [if_pos ((cond1_iff t).2 ht)]
    have e : k0_pay1 (iblk m c 1 t) (iblk m c 2 t) (iblk m c 4 t) = wLoAt m c t.val := by unfold wLoAt; rw [pt_val]
    rw [e]
    exact put_glue (wLoAt m c) s0 _ t.val (by rw [off1_eq, Nat.mod_eq_of_lt ht]) h.lo x hx
  · rw [if_neg fun e => ht ((cond1_iff t).1 e)]
    have hx' : (x 1).val < 11520 := (x 1).isLt
    exact h.lo x (by omega)

theorem Inv.hi' {t : Fin cfg0.N} (h : Inv m c t.val s0 s1 s2 s3 s4 s5) (x : S960x11520.Idx) (hx : (x 1).val < 1280 * (t.val + 1)) :
    wHi (grid0.coords t) (iblk m c 1 t) (iblk m c 3 t) (iblk m c 5 t) s1 x = WHi m c x := by
  unfold wHi
  by_cases ht : t.val < 9
  · rw [if_pos ((cond1_iff t).2 ht)]
    have e : k0_pay3 (k0_pay2 (iblk m c 1 t) (iblk m c 3 t) (iblk m c 5 t)) = wHiAt m c t.val := by unfold wHiAt; rw [pt_val]
    rw [e]
    exact put_glue (wHiAt m c) s1 _ t.val (by rw [off1_eq, Nat.mod_eq_of_lt ht]) h.hi x hx
  · rw [if_neg fun e => ht ((cond1_iff t).1 e)]
    have hx' : (x 1).val < 11520 := (x 1).isLt
    exact h.hi x (by omega)

theorem Inv.aLo' {t : Fin cfg0.N} (h : Inv m c t.val s0 s1 s2 s3 s4 s5) :
    aLo (grid0.coords t) (iblk m c 0 t) (wLo (grid0.coords t) (iblk m c 1 t) (iblk m c 2 t) (iblk m c 4 t) s0) s2 = accLo m c (t.val + 1) := by
  show _ = aLo (grid0.coords (pt t.val)) (iblk m c 0 (pt t.val)) (WLo m c) (accLo m c t.val)
  rw [pt_val]
  unfold Hand.aLo
  rw [strip_congr t _ (WLo m c) (t.val + 1) (by have := Nat.mod_le t.val 9; omega) h.lo']
  by_cases h0 : t.val % 9 = 0
  · rw [if_pos ((cond2_iff t).2 h0), if_pos ((cond2_iff t).2 h0)]
  · rw [h.eLo h0]

theorem Inv.aHi' {t : Fin cfg0.N} (h : Inv m c t.val s0 s1 s2 s3 s4 s5) :
    aHi (grid0.coords t) (iblk m c 0 t) (wHi (grid0.coords t) (iblk m c 1 t) (iblk m c 3 t) (iblk m c 5 t) s1) s3 = accHi m c (t.val + 1) := by
  show _ = aHi (grid0.coords (pt t.val)) (iblk m c 0 (pt t.val)) (WHi m c) (accHi m c t.val)
  rw [pt_val]
  unfold Hand.aHi
  rw [strip_congr t _ (WHi m c) (t.val + 1) (by have := Nat.mod_le t.val 9; omega) h.hi']
  by_cases h0 : t.val % 9 = 0
  · rw [if_pos ((cond2_iff t).2 h0), if_pos ((cond2_iff t).2 h0)]
  · rw [h.eHi h0]

theorem Inv.aH' {t : Fin cfg0.N} (h : Inv m c t.val s0 s1 s2 s3 s4 s5) :
    aH (grid0.coords t) (iblk m c 0 t) (iblk m c 6 t) s4 = accH m c (t.val + 1) := by
  show _ = aH (grid0.coords (pt t.val)) (iblk m c 0 (pt t.val)) (iblk m c 6 (pt t.val)) (accH m c t.val)
  rw [pt_val]
  unfold Hand.aH
  by_cases h0 : t.val % 9 = 0
  · rw [if_pos ((cond2_iff t).2 h0), if_pos ((cond2_iff t).2 h0)]
  · rw [h.eH h0]

theorem Inv.sc' {t : Fin cfg0.N} (h : Inv m c t.val s0 s1 s2 s3 s4 s5) (x : S9x20x256.Idx) (hx : (x 0).val < t.val % 9 + 1) :
    sc (grid0.coords t) (iblk m c 0 t) s5 x = scaleT m c (t.val / 9) x := by
  unfold Hand.sc
  rw [off2_eq]
  by_cases hl : (x 0).val < t.val % 9
  · refine (dif_neg fun hh => ?_).trans (h.eS x hl)
    have := (hh 0).1
    change t.val % 9 ≤ (x 0).val at this
    omega
  · have hb : ∀ a : Fin 3, (![t.val % 9, 0, 0] : Fin 3 → ℕ) a ≤ (x a).val ∧ (x a).val < (![t.val % 9, 0, 0] : Fin 3 → ℕ) a + S1x20x256.size a := by
      intro a
      match a with
      | ⟨0, _⟩ => exact ⟨by change t.val % 9 ≤ (x 0).val; omega, by change (x 0).val < t.val % 9 + 1; omega⟩
      | ⟨1, _⟩ => exact ⟨Nat.zero_le _, by have := (x 1).isLt; change (x 1).val < 20 at this; change (x 1).val < 0 + 20; omega⟩
      | ⟨2, _⟩ => exact ⟨Nat.zero_le _, by have := (x 2).isLt; change (x 2).val < 256 at this; change (x 2).val < 0 + 256; omega⟩
    refine (dif_pos hb).trans ?_
    unfold scaleT
    have hd : 9 * (t.val / 9) + (x 0).val = t.val := by omega
    rw [hd, pt_val]
    refine congrArg _ (funext fun a => Fin.ext ?_)
    match a with
    | ⟨0, _⟩ =>
      change (x 0).val - t.val % 9 = 0
      omega
    | ⟨1, _⟩ => rfl
    | ⟨2, _⟩ => rfl

/-- On the last column the scale scratch is the row's. -/
theorem Inv.sc_last {t : Fin cfg0.N} (h : Inv m c t.val s0 s1 s2 s3 s4 s5) (h8 : t.val % 9 = 8) :
    sc (grid0.coords t) (iblk m c 0 t) s5 = scaleT m c (t.val / 9) :=
  funext fun x => h.sc' x (by have : (x 0).val < 9 := (x 0).isLt; omega)

/-- The body's scratches after point `t` are those before the next. -/
theorem Inv.succ {t : Fin cfg0.N} (h : Inv m c t.val s0 s1 s2 s3 s4 s5) :
    Inv m c (t.val + 1) (wLo (grid0.coords t) (iblk m c 1 t) (iblk m c 2 t) (iblk m c 4 t) s0)
      (wHi (grid0.coords t) (iblk m c 1 t) (iblk m c 3 t) (iblk m c 5 t) s1)
      (Hand.aLo (grid0.coords t) (iblk m c 0 t) (wLo (grid0.coords t) (iblk m c 1 t) (iblk m c 2 t) (iblk m c 4 t) s0) s2)
      (Hand.aHi (grid0.coords t) (iblk m c 0 t) (wHi (grid0.coords t) (iblk m c 1 t) (iblk m c 3 t) (iblk m c 5 t) s1) s3)
      (Hand.aH (grid0.coords t) (iblk m c 0 t) (iblk m c 6 t) s4)
      (Hand.sc (grid0.coords t) (iblk m c 0 t) s5) :=
  ⟨h.lo', h.hi', fun _ => h.aLo', fun _ => h.aHi', fun _ => h.aH', fun x hx => by
    have e : (t.val + 1) / 9 = t.val / 9 := by omega
    rw [e]
    exact h.sc' x (by omega)⟩

end Cert.KernelIdeal.Hand

end
-- ==== Proof.Track.lean ====
/-
  The idealized kernel's run with its results named: at every grid point the scratches hold what `Inv` says, the block of
  packed codes holds the point's codes, and on the last column of a row the other two result blocks hold what the row's
  accumulators and scales give. Every execution terminates with each result array at what these blocks leave in it.
-/

module

public import proofs.«01_k».proof.Proof.Gen.KernelIdeal.Frame
public import proofs.«01_k».proof.Proof.Inv
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers, each at some contents. -/
abbrev scratch (c : Dev nD) : sProp 𝕄 :=
  iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d))

/-- The scratch buffers before point `n`: at contents of which `Inv` holds. -/
def tracked (c : Dev nD) (n : ℕ) : sProp 𝕄 :=
  iprop((∃ s0 s1 s2 s3 s4 s5, ⌜Inv m c n s0 s1 s2 s3 s4 s5⌝ ∗ owns (c : Thread nD τ) (Memref.whole cc0_scratch0) fullShare s0 ∗ owns (c : Thread nD τ) (Memref.whole cc0_scratch1) fullShare s1 ∗ owns (c : Thread nD τ) (Memref.whole cc0_scratch2) fullShare s2 ∗ owns (c : Thread nD τ) (Memref.whole cc0_scratch3) fullShare s3 ∗ owns (c : Thread nD τ) (Memref.whole cc0_scratch4) fullShare s4 ∗ owns (c : Thread nD τ) (Memref.whole cc0_scratch5) fullShare s5) ∗ ∃ r, prngReg c r)

/-- The proof data on core `c`: every array as the region finds it, every input block left in place, the codes at every
    point, the two other results as the last column of a row leaves them, the scratches tracked, full shares, nothing owed. -/
def dats (_ : Fin 1) (c : Dev nD) : Dat τ (Elt F) Unit ℕ (UR sig nD τ) ℕ cfg0 c where
  A w := V m c (Pipeline.arrRef spec0 w)
  after
    | 9 => fun t => k0_pay20 (accH m c (t.val + 1)) (accLo m c (t.val + 1)) (iblk m c 7 t) (accHi m c (t.val + 1)) (iblk m c 8 t)
    | 10 => fun t => codes (iblk m c 0 t)
    | 11 => fun t => k0_pay21 (scaleT m c (t.val / 9))
    | 0 => iblk m c 0
    | 1 => iblk m c 1
    | 2 => iblk m c 2
    | 3 => iblk m c 3
    | 4 => iblk m c 4
    | 5 => iblk m c 5
    | 6 => iblk m c 6
    | 7 => iblk m c 7
    | 8 => iblk m c 8
  Φ n := tracked m c n.val
  q _ := fullShare
  owed _ := 0

theorem A_eq (c : Dev nD) (w : Fin cfg0.W) : (dats m 0 c).A w = V m c (Pipeline.arrRef spec0 w) := rfl

/-- The class invariant's scratch part is the scratch buffers at some contents. -/
theorem scratch_eq (c : Dev nD) : (Pipeline.scopedRest spec0 c : sProp 𝕄) = scratch (F := F) c := by
  rw [scopedRest0_eq]; unfold scratch; simp only [owns_whole]; try rfl

/-- Before the first point the scratches may hold anything. -/
theorem tracked_in (c : Dev nD) : Pipeline.ΦA spec0 c ⊢ tracked m c 0 := by
  unfold Pipeline.ΦA tracked
  rw [scratch_eq]
  iintro ⟨⟨⟨%s0, H0⟩, ⟨%s1, H1⟩, ⟨%s2, H2⟩, ⟨%s3, H3⟩, ⟨%s4, H4⟩, ⟨%s5, H5⟩⟩, Hg⟩
  isplitr [Hg]; swap; · iexact Hg
  iexists s0, s1, s2, s3, s4, s5
  isplitr; · ipureintro; exact Inv.zero
  isplitl [H0]; · iexact H0
  isplitl [H1]; · iexact H1
  isplitl [H2]; · iexact H2
  isplitl [H3]; · iexact H3
  isplitl [H4]; · iexact H4
  iexact H5

/-- After any point what is known of the scratches may be forgotten. -/
theorem tracked_out (c : Dev nD) (n : ℕ) : tracked m c n ⊢ Pipeline.ΦA spec0 c := by
  unfold Pipeline.ΦA tracked
  rw [scratch_eq]
  iintro ⟨⟨%s0, %s1, %s2, %s3, %s4, %s5, -, H0, H1, H2, H3, H4, H5⟩, Hg⟩
  isplitr [Hg]; swap; · iexact Hg
  isplitl [H0]; · iexists _; iexact H0
  isplitl [H1]; · iexists _; iexact H1
  isplitl [H2]; · iexists _; iexact H2
  isplitl [H3]; · iexists _; iexact H3
  isplitl [H4]; · iexists _; iexact H4
  iexists _; iexact H5

/-- Off the last column the two row results are idle and not written back; on it they are live. -/
theorem idle9 : ∀ t : Fin cfg0.N, cfg0.idle 9 (cfg0.grid.coords t) = !decide (t.val % 9 = 8) :=
  (by decide +kernel : ∀ t : Fin grid0.N, idle0 9 (grid0.coords t) = !decide (t.val % 9 = 8))
theorem idle11 : ∀ t : Fin cfg0.N, cfg0.idle 11 (cfg0.grid.coords t) = !decide (t.val % 9 = 8) :=
  (by decide +kernel : ∀ t : Fin grid0.N, idle0 11 (grid0.coords t) = !decide (t.val % 9 = 8))
theorem flush9 : ∀ t : Fin cfg0.N, (cfg0.win 9).flush t = decide (t.val % 9 = 8) :=
  (by decide +kernel : ∀ t : Fin grid0.N, win0_9.flush t = decide (t.val % 9 = 8))
theorem flush11 : ∀ t : Fin cfg0.N, (cfg0.win 11).flush t = decide (t.val % 9 = 8) :=
  (by decide +kernel : ∀ t : Fin grid0.N, win0_11.flush t = decide (t.val % 9 = 8))

theorem leaves9_last (c : Dev nD) (t : Fin cfg0.N) (h : t.val % 9 = 8) :
    (dats m 0 c).leavesExact 9 t = owns (c : Thread nD τ) (st0_9 t) fullShare ((dats m 0 c).after 9 t) := by
  unfold Dat.leavesExact; rw [idle9, decide_eq_true h]; rfl
theorem leaves11_last (c : Dev nD) (t : Fin cfg0.N) (h : t.val % 9 = 8) :
    (dats m 0 c).leavesExact 11 t = owns (c : Thread nD τ) (st0_11 t) fullShare ((dats m 0 c).after 11 t) := by
  unfold Dat.leavesExact; rw [idle11, decide_eq_true h]; rfl
theorem leaves9_idle (c : Dev nD) (t : Fin cfg0.N) (h : ¬t.val % 9 = 8) :
    (dats m 0 c).leavesExact 9 t = iprop(∃ d, owns (c : Thread nD τ) (st0_9 t) fullShare ((dats m 0 c).before 9 t d)) := by
  unfold Dat.leavesExact; rw [idle9, flush9, decide_eq_false h]; rfl
theorem leaves11_idle (c : Dev nD) (t : Fin cfg0.N) (h : ¬t.val % 9 = 8) :
    (dats m 0 c).leavesExact 11 t = iprop(∃ d, owns (c : Thread nD τ) (st0_11 t) fullShare ((dats m 0 c).before 11 t d)) := by
  unfold Dat.leavesExact; rw [idle11, flush11, decide_eq_false h]; rfl

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ (dats m 0 c).leavesExact 9 t ∗ owns (c : Thread nD τ) (st0_10 t) fullShare ((dats m 0 c).after 10 t) ∗ (dats m 0 c).leavesExact 11 t)

set_option maxHeartbeats 2000000 in
/-- The body at the point: the invariant opened, `kernelRun`, the invariant closed at the next point. -/
theorem sound_body (c : Dev nD) (t : Fin cfg0.N) :
    bodyPre m c t ⊢ wp frame (wpE (defs₀ (F := F)) Variants.none c none) Set.univ (bodyAt0 t) (fun _ => bodyPost m c t) := by
  have b0 := fun d => before0_0_of m (dats m 0 c) rfl (fun _ => rfl) t d
  have b1 := fun d => before0_1_of m (dats m 0 c) rfl (fun _ => rfl) t d
  have b2 := fun d => before0_2_of m (dats m 0 c) rfl (fun _ => rfl) t d
  have b3 := fun d => before0_3_of m (dats m 0 c) rfl (fun _ => rfl) t d
  have b4 := fun d => before0_4_of m (dats m 0 c) rfl (fun _ => rfl) t d
  have b5 := fun d => before0_5_of m (dats m 0 c) rfl (fun _ => rfl) t d
  have b6 := fun d => before0_6_of m (dats m 0 c) rfl (fun _ => rfl) t d
  have b7 := fun d => before0_7_of m (dats m 0 c) rfl (fun _ => rfl) t d
  have b8 := fun d => before0_8_of m (dats m 0 c) rfl (fun _ => rfl) t d
  unfold bodyPre bodyPost bodyAt0
  simp only [b0, b1, b2, b3, b4, b5, b6, b7, b8]
  rw [show (dats m 0 c).owesAt () t.succ = (dats m 0 c).owesAt () t.castSucc from rfl,
    show (dats m 0 c).Φ t.succ = tracked m c (t.val + 1) from rfl, show (dats m 0 c).Φ t.castSucc = tracked m c t.val from rfl]
  unfold tracked
  iintro ⟨⟨⟨%s0, %s1, %s2, %s3, %s4, %s5, %hI, S0, S1, S2, S3, S4, S5⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (iblk m c 0 t) (iblk m c 1 t) (iblk m c 2 t) (iblk m c 3 t) (iblk m c 4 t) (iblk m c 5 t) (iblk m c 6 t) (iblk m c 7 t) (iblk m c 8 t) _ _ _ s0 s1 s2 s3 s4 s5 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, S0, S1, S2, S3, S4, S5⟩
  isplitl [S0 S1 S2 S3 S4 S5 Hg]
  · isplitr [Hg]; swap; · iexact Hg
    iexists _, _, _, _, _, _
    isplitr; · ipureintro; exact hI.succ
    isplitl [S0]; · iexact S0
    isplitl [S1]; · iexact S1
    isplitl [S2]; · iexact S2
    isplitl [S3]; · iexact S3
    isplitl [S4]; · iexact S4
    iexact S5
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  by_cases h8 : t.val % 9 = 8
  · rw [leaves9_last m c t h8, leaves11_last m c t h8, if_pos ((cond3_iff t).2 h8), if_pos ((cond3_iff t).2 h8),
      hI.aH', hI.aLo', hI.aHi', hI.sc_last h8]
    isplitl [H9]; · iexact H9
    isplitl [H10]; · iexact H10
    iexact H11
  · rw [leaves9_idle m c t h8, leaves11_idle m c t h8, if_neg fun e => h8 ((cond3_iff t).1 e), if_neg fun e => h8 ((cond3_iff t).1 e)]
    isplitl [H9]; · iexists _; iexact H9
    isplitl [H10]; · iexact H10
    iexists _; iexact H11

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

-- the run theorem's implicit arguments are found by unifying its conclusion with this statement, which unifies only
-- when unification may unfold plain definitions in a metavariable's type
set_option backward.isDefEq.respectTransparency.types false in
/-- From any memory with zero counters every weakly fair execution of @main terminates; at the end every window's array
    holds what its blocks left in it, every buffer that is no result what the region found in it, every counter zero. -/
theorem run_main :
    θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := tracked_in m) (hout := fun c => tracked_out m c _)

/-- After the run the packed weights hold what they held at launch: they are an input window's array. -/
theorem final_arg1 {r : PUnit × MemSt nD τ sig (Elt F)} (h : Pipeline.FramePost cfgs (dats (F := F) m) 0 (V m) r) (c : Dev nD) :
    r.2.mem ((c.tc : Thread nD τ).loc main_arg1) = m ((c.tc : Thread nD τ).loc main_arg1) := by
  have h1 : r.2.mem ((c.tc : Thread nD τ).loc main_arg1) = V m c main_arg1 :=
    ((h c).1 (1 : Fin 12)).trans ((dats (F := F) m 0 c).arrAt_in (1 : Fin 12) rfl _)
  rw [h1, V_main_arg1]

/-- Every argument array ends as launched, and every counter at zero. -/
theorem run_args :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
    final_arg1 m h.1 c,
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩, h.2⟩) (run_main m ρ)

end Cert.KernelIdeal.Hand

end
-- ==== Proof.Scalar.lean ====
/- The scalar mathematics the kernel and the reference share: a group's scale, the rounding to a 4-bit code, the
   packing of two codes, the two nibbles of a byte; and the identities by which the kernel's spelling of each is the
   reference's. -/
module

public import Idealize.ShloMosaic.Lib.Pointwise

@[expose] public section

noncomputable section

namespace Cert.Quant

open Idealize.ShloMosaic

/-- The largest absolute value of a group of 64. -/
def amax (f : Fin 64 → EReal) : EReal :=
  (Finset.univ : Finset (Fin 64)).fold max (Ideal.ofBits .f32 0xFF800000#32) (fun k => FloatOps.absf (F := Ideal) (φ := .f32) (f k))

/-- The scale of a group whose largest absolute value is `a`. -/
def scaleOf (a : EReal) : EReal := if 0 < a then Ideal.div a (Ideal.ofBits .f32 0x40E00000#32) else 1

/-- The code of `x` by the scale `s`: the quotient rounded to the nearest even integer and clipped. -/
def quant (x s : EReal) : EReal :=
  min (Ideal.ofBits .f32 0x40E00000#32) (max (Ideal.ofBits .f32 0xC1000000#32)
    (Ideal.liftRound Ideal.roundHalfEven (Ideal.div x s)))

/-- Two integer codes packed in a byte, the first in the low nibble, -/
def packInt (p q : BitVec 32) : BitVec 8 :=
  BitVec.setWidth 8 (IntOp.ori (IntOp.andi p 15#32) (IntOp.shli ArithUnit.host (IntOp.andi q 15#32) 4#32))

/-- and two codes given as numbers. -/
def pack (p q : EReal) : BitVec 8 :=
  packInt (FloatOps.fptosi (F := Ideal) (φ := .f32) 32 p) (FloatOps.fptosi (F := Ideal) (φ := .f32) 32 q)

/-- The low nibble of a byte as a number. -/
def nibLo (w : BitVec 8) : EReal := FloatOps.uitofp (F := Ideal) FTy.bf16 (IntOp.andi (BitVec.setWidth 32 w) 15#32)

/-- The high nibble. -/
def nibHi (w : BitVec 8) : EReal :=
  FloatOps.uitofp (F := Ideal) FTy.bf16 (IntOp.shrui ArithUnit.host (BitVec.setWidth 32 w) 4#32)

theorem seven : Ideal.ofBits .f32 0x40E00000#32 = ((7 : ℝ) : EReal) := by
  simp [Ideal.ofBits, Ideal.ieee, -EReal.coe_mul]; norm_num

theorem neg_eight : Ideal.ofBits .f32 0xC1000000#32 = ((-8 : ℝ) : EReal) := by
  simp [Ideal.ofBits, Ideal.ieee, -EReal.coe_mul]; norm_num

/-- A scale is never zero. -/
theorem scaleOf_ne (a : EReal) : scaleOf a ≠ 0 := by
  unfold scaleOf
  split_ifs with h
  · rw [seven, Ideal.div_coe (by norm_num)]
    exact (EReal.mul_pos h (by exact_mod_cast (by norm_num : (0 : ℝ) < 1 / 7))).ne'
  · exact one_ne_zero

/-- Multiplying by the reciprocal of a number other than zero is dividing by it. -/
theorem mul_recip (x : EReal) {s : EReal} (h : s ≠ 0) : x * Ideal.div 1 s = Ideal.div x s := by
  rw [Ideal.div, Ideal.div, if_neg h, if_neg h, one_mul]

/-- Rounding to the nearest even integer is monotone on the reals, -/
theorem roundHalfEven_mono : Monotone Ideal.roundHalfEven := by
  intro x y hxy
  have hf : ⌊x⌋ ≤ ⌊y⌋ := Int.floor_le_floor hxy
  rcases hf.lt_or_eq with hl | he
  · have h1 : Ideal.roundHalfEven x ≤ ⌊x⌋ + 1 := by
      unfold Ideal.roundHalfEven; dsimp only; split_ifs <;> omega
    have h2 : ⌊y⌋ ≤ Ideal.roundHalfEven y := by
      unfold Ideal.roundHalfEven; dsimp only; split_ifs <;> omega
    omega
  · unfold Ideal.roundHalfEven; dsimp only
    rw [← he]
    split_ifs <;> first | omega | (exfalso; linarith)

/-- and on the numbers with the infinities. -/
theorem liftRound_mono : Monotone (Ideal.liftRound Ideal.roundHalfEven) := by
  intro x y hxy
  induction x using EReal.rec with
  | bot => simp
  | top => rw [top_le_iff.1 hxy]
  | coe x =>
    induction y using EReal.rec with
    | bot => exact absurd hxy (by simp)
    | top => simp
    | coe y =>
      rw [Ideal.liftRound_coe, Ideal.liftRound_coe]
      exact_mod_cast roundHalfEven_mono (by exact_mod_cast hxy)

theorem roundHalfEven_int (n : ℤ) : Ideal.roundHalfEven (n : ℝ) = n := by
  unfold Ideal.roundHalfEven; dsimp only
  rw [Int.floor_intCast, if_pos (by norm_num)]

/-- Clipping to [-8, 7] and then rounding is rounding and then clipping. -/
theorem round_clip (v : EReal) :
    Ideal.liftRound Ideal.roundHalfEven
      (min (max v (Ideal.ofBits .f32 0xC1000000#32)) (Ideal.ofBits .f32 0x40E00000#32))
    = min (Ideal.ofBits .f32 0x40E00000#32) (max (Ideal.ofBits .f32 0xC1000000#32)
        (Ideal.liftRound Ideal.roundHalfEven v)) := by
  have h7 : Ideal.liftRound Ideal.roundHalfEven ((7 : ℝ) : EReal) = ((7 : ℝ) : EReal) := by
    have := roundHalfEven_int 7
    rw [Ideal.liftRound_coe]; norm_num at this; rw [this]; norm_num
  have h8 : Ideal.liftRound Ideal.roundHalfEven ((-8 : ℝ) : EReal) = ((-8 : ℝ) : EReal) := by
    have := roundHalfEven_int (-8)
    rw [Ideal.liftRound_coe]; norm_num at this; rw [this]; norm_num
  rw [seven, neg_eight, liftRound_mono.map_min, liftRound_mono.map_max, h7, h8, min_comm, max_comm]

/-- A code is an integer from -8 to 7, -/
theorem quant_int (x s : EReal) : ∃ n : ℤ, -8 ≤ n ∧ n ≤ 7 ∧ quant x s = ((n : ℝ) : EReal) := by
  unfold quant
  rw [seven, neg_eight]
  induction Ideal.div x s using EReal.rec with
  | bot => exact ⟨-8, le_rfl, by norm_num, by simp; exact_mod_cast (by norm_num : (-8 : ℝ) ≤ 7)⟩
  | top => exact ⟨7, by norm_num, le_rfl, by simp⟩
  | coe v =>
    refine ⟨min 7 (max (-8) (Ideal.roundHalfEven v)), by omega, by omega, ?_⟩
    rw [Ideal.liftRound_coe]
    push_cast
    rfl

/-- so as a 32-bit integer and back it is itself. -/
theorem quant_cast (x s : EReal) :
    FloatOps.sitofp (F := Ideal) FTy.bf16 (FloatOps.fptosi (F := Ideal) (φ := .f32) 32 (quant x s)) = quant x s := by
  obtain ⟨n, h1, h2, h⟩ := quant_int x s
  rw [h]
  show (((Ideal.fptosi 32 ((n : ℝ) : EReal)).toInt : ℝ) : EReal) = _
  have hf : Ideal.fptosi 32 ((n : ℝ) : EReal) = BitVec.ofInt 32 n := by
    show BitVec.ofInt 32 (max _ (min _ (if (0 : ℝ) ≤ n then ⌊(n : ℝ)⌋ else ⌈(n : ℝ)⌉))) = _
    rw [Int.floor_intCast, Int.ceil_intCast, ite_self]
    congr 1
    norm_num
    omega
  have ht : (BitVec.ofInt 32 n).toInt = n := by
    interval_cases n <;> rfl
  rw [hf, ht]

/-- The kernel's code is the reference's. -/
theorem quant_eq (x : EReal) {s : EReal} (h : s ≠ 0) :
    Ideal.liftRound Ideal.roundHalfEven (min (max (x * Ideal.div 1 s) (Ideal.ofBits .f32 0xC1000000#32))
      (Ideal.ofBits .f32 0x40E00000#32)) = quant x s := by
  rw [round_clip, mul_recip x h]; rfl

/-- The largest of 64 taken as the kernel does: eight maxima over eight. -/
theorem fold_tree (b : EReal) (f : Fin 64 → EReal) :
    (Finset.univ : Finset (Fin 8)).fold max b (fun x =>
      max (max (max (f ⟨2 * x.val, by omega⟩) (f ⟨16 + 2 * x.val, by omega⟩))
            (max (f ⟨32 + 2 * x.val, by omega⟩) (f ⟨48 + 2 * x.val, by omega⟩)))
          (max (max (f ⟨2 * x.val + 1, by omega⟩) (f ⟨16 + (2 * x.val + 1), by omega⟩))
            (max (f ⟨32 + (2 * x.val + 1), by omega⟩) (f ⟨48 + (2 * x.val + 1), by omega⟩))))
    = (Finset.univ : Finset (Fin 64)).fold max b f := by
  apply le_antisymm
  · refine Finset.fold_max_le _ |>.2 ⟨Finset.le_fold_max _ |>.2 (.inl le_rfl), fun x _ => ?_⟩
    have hk : ∀ k : Fin 64, f k ≤ (Finset.univ : Finset (Fin 64)).fold max b f := fun k =>
      Finset.le_fold_max _ |>.2 (.inr ⟨k, Finset.mem_univ _, le_rfl⟩)
    simp only [max_le_iff]
    exact ⟨⟨⟨hk _, hk _⟩, hk _, hk _⟩, ⟨hk _, hk _⟩, hk _, hk _⟩
  · refine Finset.fold_max_le _ |>.2 ⟨Finset.le_fold_max _ |>.2 (.inl le_rfl), fun k _ => ?_⟩
    refine Finset.le_fold_max _ |>.2 (.inr ⟨⟨k.val % 16 / 2, by omega⟩, Finset.mem_univ _, ?_⟩)
    have hq : k.val / 16 = 0 ∨ k.val / 16 = 1 ∨ k.val / 16 = 2 ∨ k.val / 16 = 3 := by omega
    have hp : k.val % 2 = 0 ∨ k.val % 2 = 1 := by omega
    have e : ∀ (n : ℕ) (h : n < 64), k.val = n → f k ≤ f ⟨n, h⟩ := fun n h hn => (congrArg f (Fin.ext hn)).le
    simp only [le_max_iff]
    rcases hp with hp | hp <;> rcases hq with hq | hq | hq | hq
    · exact .inl (.inl (.inl (e _ _ (by omega))))
    · exact .inl (.inl (.inr (e _ _ (by omega))))
    · exact .inl (.inr (.inl (e _ _ (by omega))))
    · exact .inl (.inr (.inr (e _ _ (by omega))))
    · exact .inr (.inl (.inl (e _ _ (by omega))))
    · exact .inr (.inl (.inr (e _ _ (by omega))))
    · exact .inr (.inr (.inl (e _ _ (by omega))))
    · exact .inr (.inr (.inr (e _ _ (by omega))))

/-- A byte masked at its own width has the low nibble, -/
theorem nibLo_eq (w : BitVec 8) : FloatOps.uitofp (F := Ideal) FTy.bf16 (IntOp.andi w 15#8) = nibLo w := by
  have h : (IntOp.andi w 15#8).toNat = (IntOp.andi (BitVec.setWidth 32 w) 15#32).toNat := by
    revert w; decide +kernel
  exact congrArg (fun n : ℕ => ((n : ℝ) : EReal)) h

/-- and one shifted as a word and cut back has the high one. -/
theorem nibHi_eq (w : BitVec 8) :
    FloatOps.uitofp (F := Ideal) FTy.bf16 (BitVec.setWidth 8 (IntOp.shrui ArithUnit.vector (BitVec.setWidth 32 w) 4#32))
      = nibHi w := by
  have h : (BitVec.setWidth 8 (IntOp.shrui ArithUnit.vector (BitVec.setWidth 32 w) 4#32)).toNat
      = (IntOp.shrui ArithUnit.host (BitVec.setWidth 32 w) 4#32).toNat := by
    revert w; decide +kernel
  exact congrArg (fun n : ℕ => ((n : ℝ) : EReal)) h

/-- The kernel's packed byte, through a 16-bit word, is the reference's. -/
theorem pack_eq (p q : EReal) :
    BitVec.setWidth 8 (BitVec.setWidth 16
      (IntOp.ori (IntOp.andi (FloatOps.fptosi (F := Ideal) (φ := .f32) 32 p) 15#32)
        (IntOp.shli ArithUnit.vector (IntOp.andi (FloatOps.fptosi (F := Ideal) (φ := .f32) 32 q) 15#32) 4#32)))
    = pack p q := by
  have h : ∀ z : BitVec 32, IntOp.shli ArithUnit.vector z 4#32 = IntOp.shli ArithUnit.host z 4#32 := fun z => rfl
  rw [h, BitVec.setWidth_setWidth_of_le _ (by decide)]; rfl

end Cert.Quant

end
-- ==== Proof.Pure.lean ====
/- The kernel body's stored values, entry by entry over the scalars. -/
module

public import proofs.«01_k».proof.Proof.Run
public import proofs.«01_k».proof.Proof.Scalar
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- The scale of group `g` of row `c` of a block of activations, its maximum taken in eights, -/
theorem pay10_raw (x : FVec Ideal S256x1280 .bf16) (g : Fin 20) (c : Fin 256) :
    k0_pay10 (F := Ideal) x (ix3 g 0 c) = Quant.scaleOf ((Finset.univ : Finset (Fin 8)).fold max (Ideal.ofBits .f32 0xFF800000#32) fun y =>
      max (max (max (FloatOps.absf (F := Ideal) (φ := .bf16) (x (ix2 c ⟨g.val * 64 + 2 * (g.val * 8 + y.val) % 16, by omega⟩))) (FloatOps.absf (F := Ideal) (φ := .bf16) (x (ix2 c ⟨g.val * 64 + 16 + 2 * (g.val * 8 + y.val) % 16, by omega⟩))))
          (max (FloatOps.absf (F := Ideal) (φ := .bf16) (x (ix2 c ⟨g.val * 64 + 32 + 2 * (g.val * 8 + y.val) % 16, by omega⟩))) (FloatOps.absf (F := Ideal) (φ := .bf16) (x (ix2 c ⟨g.val * 64 + 48 + 2 * (g.val * 8 + y.val) % 16, by omega⟩)))))
        (max (max (FloatOps.absf (F := Ideal) (φ := .bf16) (x (ix2 c ⟨g.val * 64 + (2 * (g.val * 8 + y.val) + 1) % 16, by omega⟩))) (FloatOps.absf (F := Ideal) (φ := .bf16) (x (ix2 c ⟨g.val * 64 + 16 + (2 * (g.val * 8 + y.val) + 1) % 16, by omega⟩))))
          (max (FloatOps.absf (F := Ideal) (φ := .bf16) (x (ix2 c ⟨g.val * 64 + 32 + (2 * (g.val * 8 + y.val) + 1) % 16, by omega⟩))) (FloatOps.absf (F := Ideal) (φ := .bf16) (x (ix2 c ⟨g.val * 64 + 48 + (2 * (g.val * 8 + y.val) + 1) % 16, by omega⟩)))))) := by
  pointwise [k0_pay10, k0_pay7, Quant.scaleOf]

/-- and over the whole group. -/
theorem pay10_at (x : FVec Ideal S256x1280 .bf16) (g : Fin 20) (c : Fin 256) :
    k0_pay10 (F := Ideal) x (ix3 g 0 c) = Quant.scaleOf (Quant.amax fun k => x (ix2 c ⟨g.val * 64 + k.val, by omega⟩)) := by
  refine (pay10_raw x g c).trans (congrArg Quant.scaleOf ?_)
  have h0 : ∀ y : Fin 8, 2 * (g.val * 8 + y.val) % 16 = 2 * y.val := by omega
  have h1 : ∀ y : Fin 8, (2 * (g.val * 8 + y.val) + 1) % 16 = 2 * y.val + 1 := by omega
  unfold Quant.amax
  rw [← Quant.fold_tree]
  have hb : ∀ v : EReal, FloatOps.absf (F := Ideal) (φ := .bf16) v = FloatOps.absf (F := Ideal) (φ := .f32) v := fun _ => rfl
  simp only [h0, h1, hb, Nat.add_assoc]

/-- The dequantized activations by scales `a`, -/
theorem pay14_raw (x : FVec Ideal S256x1280 .bf16) (a : FVec Ideal S20x1x256 .f32) (k : Fin 1280) (c : Fin 256) :
    k0_pay14 (F := Ideal) (k0_pay8 x) (k0_pay9 x) a (ix2 k c)
      = ((if k.val % 2 = 0 then
          Ideal.liftRound Ideal.roundHalfEven (min (max (x (ix2 c ⟨2 * (k.val / 2 / 32 * 32 + k.val / 2 % 32), by omega⟩)
            * Ideal.div 1 (a (ix3 ⟨k.val / 2 / 32, by omega⟩ 0 c))) (Ideal.ofBits .f32 0xC1000000#32)) (Ideal.ofBits .f32 0x40E00000#32))
        else
          Ideal.liftRound Ideal.roundHalfEven (min (max (x (ix2 c ⟨2 * (k.val / 2 / 32 * 32 + k.val / 2 % 32) + 1, by omega⟩)
            * Ideal.div 1 (a (ix3 ⟨k.val / 2 / 32, by omega⟩ 0 c))) (Ideal.ofBits .f32 0xC1000000#32)) (Ideal.ofBits .f32 0x40E00000#32)))
        * a (ix3 ⟨k.val / 64, by omega⟩ 0 c) : EReal) := by
  pointwise [k0_pay14, k0_pay12, k0_pay13, k0_pay11, k0_pay8, k0_pay9, k0_pay7]

/-- each a code times its scale where the scale is not zero. -/
theorem pay14_at (x : FVec Ideal S256x1280 .bf16) (a : FVec Ideal S20x1x256 .f32) (k : Fin 1280) (c : Fin 256)
    (h : (a (ix3 ⟨k.val / 64, by omega⟩ 0 c) : EReal) ≠ 0) :
    k0_pay14 (F := Ideal) (k0_pay8 x) (k0_pay9 x) a (ix2 k c)
      = (Quant.quant (x (ix2 c k)) (a (ix3 ⟨k.val / 64, by omega⟩ 0 c)) * a (ix3 ⟨k.val / 64, by omega⟩ 0 c) : EReal) := by
  refine (pay14_raw x a k c).trans ?_
  have h0 : k.val / 2 / 32 = k.val / 64 := by omega
  have e : ∀ (n : ℕ) (hn : n < 1280), n = k.val → (⟨n, hn⟩ : Fin 1280) = k := fun n hn he => Fin.ext he
  rw [← Quant.quant_eq _ h]
  simp only [h0]
  split_ifs with hp
  · rw [e (2 * (k.val / 64 * 32 + k.val / 2 % 32)) (by omega) (by omega)]
  · rw [e (2 * (k.val / 64 * 32 + k.val / 2 % 32) + 1) (by omega) (by omega)]

/-- The packed codes by scales `a` none of which is zero. -/
theorem pay15_at (x : FVec Ideal S256x1280 .bf16) (a : FVec Ideal S20x1x256 .f32) (c : Fin 256) (k : Fin 640)
    (h : (a (ix3 ⟨k.val / 32, by omega⟩ 0 c) : EReal) ≠ 0) :
    k0_pay15 (F := Ideal) (k0_pay8 x) (k0_pay9 x) a (ix2 c k)
      = Quant.pack (Quant.quant (x (ix2 c ⟨2 * k.val, by omega⟩)) (a (ix3 ⟨k.val / 32, by omega⟩ 0 c)))
          (Quant.quant (x (ix2 c ⟨2 * k.val + 1, by omega⟩)) (a (ix3 ⟨k.val / 32, by omega⟩ 0 c))) := by
  rw [← Quant.pack_eq, ← Quant.quant_eq _ h, ← Quant.quant_eq _ h]
  pointwise [k0_pay15, k0_pay12, k0_pay13, k0_pay11, k0_pay8, k0_pay9, k0_pay7]

/-- The even weight columns of a block, from the low nibbles, -/
theorem pay1_at (w : IVec S1280x960 8) (s z : FVec Ideal S1x20x960 .bf16) (k : Fin 1280) (n : Fin 960) :
    k0_pay1 (F := Ideal) w s z (ix2 n k)
      = ((Quant.nibLo (w (ix2 k n)) - z (ix3 0 ⟨k.val / 64, by omega⟩ n)) * s (ix3 0 ⟨k.val / 64, by omega⟩ n) : EReal) := by
  rw [← Quant.nibLo_eq]
  pointwise [k0_pay1]

/-- and the odd ones, from the high. -/
theorem pay3_at (w : IVec S1280x960 8) (s z : FVec Ideal S1x20x960 .bf16) (k : Fin 1280) (n : Fin 960) :
    k0_pay3 (k0_pay2 (F := Ideal) w s z) (ix2 n k)
      = ((Quant.nibHi (w (ix2 k n)) - z (ix3 0 ⟨k.val / 64, by omega⟩ n)) * s (ix3 0 ⟨k.val / 64, by omega⟩ n) : EReal) := by
  rw [← Quant.nibHi_eq]
  pointwise [k0_pay2, k0_pay3]

/-- One step of the accumulators: the block's product added. -/
theorem pay17_at (x : FVec Ideal S1280x256 .bf16) (a : FVec Ideal S960x256 .f32) (w : FVec Ideal S960x1280 .bf16) (n : Fin 960) (c : Fin 256) :
    k0_pay17 (F := Ideal) x a w (ix2 n c) = (a (ix2 n c) + ∑ k : Fin 1280, w (ix2 n k) * x (ix2 k c) : EReal) := by
  pointwise [k0_pay17]

@[inherit_doc pay17_at]
theorem pay18_at (x : FVec Ideal S1280x256 .bf16) (a : FVec Ideal S960x256 .f32) (w : FVec Ideal S960x1280 .bf16) (n : Fin 960) (c : Fin 256) :
    k0_pay18 (F := Ideal) x a w (ix2 n c) = (a (ix2 n c) + ∑ k : Fin 1280, w (ix2 n k) * x (ix2 k c) : EReal) := by
  pointwise [k0_pay18]

@[inherit_doc pay17_at]
theorem pay19_at (x : FVec Ideal S256x1280 .bf16) (a : FVec Ideal S64x256 .f32) (w : FVec Ideal S64x1280 .bf16) (l : Fin 64) (c : Fin 256) :
    k0_pay19 (F := Ideal) (k0_pay7 x) a w (ix2 l c) = (a (ix2 l c) + ∑ k : Fin 1280, w (ix2 l k) * x (ix2 c k) : EReal) := by
  pointwise [k0_pay19, k0_pay7]

/-- The accumulators start from zero. -/
theorem pay4_at (n : Fin 960) (c : Fin 256) : k0_pay4 (F := Ideal) (ix2 n c) = (0 : EReal) := by
  pointwise [k0_pay4]

@[inherit_doc pay4_at]
theorem pay5_at (n : Fin 960) (c : Fin 256) : k0_pay5 (F := Ideal) (ix2 n c) = (0 : EReal) := by
  pointwise [k0_pay5]

@[inherit_doc pay4_at]
theorem pay6_at (n : Fin 64) (c : Fin 256) : k0_pay6 (F := Ideal) (ix2 n c) = (0 : EReal) := by
  pointwise [k0_pay6]

/-- The block of the first result: the two accumulators side by side, the low-rank product added. -/
theorem pay20_at (h : FVec Ideal S64x256 .f32) (a b : FVec Ideal S960x256 .f32) (l l' : FVec Ideal S960x64 .bf16) (n : Fin 1920) (c : Fin 256) :
    k0_pay20 (F := Ideal) h a l b l' (ix2 c n)
      = (if n.val % 2 = 0
          then (a (ix2 ⟨n.val / 2, by omega⟩ c) + ∑ x : Fin 64, l (ix2 ⟨n.val / 2, by omega⟩ x) * h (ix2 x c) : EReal)
          else (b (ix2 ⟨n.val / 2, by omega⟩ c) + ∑ x : Fin 64, l' (ix2 ⟨n.val / 2, by omega⟩ x) * h (ix2 x c) : EReal)) := by
  pointwise [k0_pay20]

/-- The block of the third result: the scales, transposed. -/
theorem pay21_at (a : FVec Ideal S9x20x256 .f32) (n : Fin 180) (c : Fin 256) :
    k0_pay21 (F := Ideal) a (ix2 c n) = a (ix3 ⟨n.val / 20, by omega⟩ ⟨n.val % 20, by omega⟩ c) := by
  pointwise [k0_pay21]

/-- A column of scales under a leading axis of length one. -/
theorem pay16_at (a : FVec Ideal S20x1x256 .f32) (n : Fin 20) (c : Fin 256) :
    k0_pay16 (F := Ideal) a (ix3 0 n c) = a (ix3 n 0 c) := by
  pointwise [k0_pay16]

end Cert.KernelIdeal.Hand

end
-- ==== Proof.Blocks.lean ====
/- The kernel's blocks read as the argument arrays: which entry of which argument each entry of each block is. -/
module

public import proofs.«01_k».proof.Proof.Inv
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- The activations, the packed weights, their scales and zero points, and the two low-rank factors. -/
abbrev aX : FVec Ideal S2x1536x11520 .bf16 := m ((c : Thread nD τ).loc main_arg0)
@[inherit_doc aX] abbrev aW : IVec S11520x960 8 := m ((c : Thread nD τ).loc main_arg1)
@[inherit_doc aX] abbrev aS : FVec Ideal S180x1920 .f32 := m ((c : Thread nD τ).loc main_arg2)
@[inherit_doc aX] abbrev aZ : FVec Ideal S180x1920 .bf16 := m ((c : Thread nD τ).loc main_arg3)
@[inherit_doc aX] abbrev aL1 : FVec Ideal S11520x64 .bf16 := m ((c : Thread nD τ).loc main_arg4)
@[inherit_doc aX] abbrev aL2 : FVec Ideal S64x1920 .bf16 := m ((c : Thread nD τ).loc main_arg5)

/-- Where each window's block sits. -/
theorem idx_x : ∀ t : Fin cfg0.N, win0_0.index t = ![t.val / 9, t.val % 9] := (by decide +kernel : ∀ t : Fin grid0.N, _)
theorem idx_w : ∀ t : Fin cfg0.N, t.val < 9 → win0_1.index t = ![t.val, 0] ∧ win0_2.index t = ![t.val, 0, 0] ∧ win0_3.index t = ![t.val, 0, 0]
    ∧ win0_4.index t = ![t.val, 0, 0] ∧ win0_5.index t = ![t.val, 0, 0] := (by decide +kernel : ∀ t : Fin grid0.N, _)
theorem idx_l : ∀ t : Fin cfg0.N, win0_6.index t = ![0, 0] ∧ win0_7.index t = ![0, 0] ∧ win0_8.index t = ![0, 0] := (by decide +kernel : ∀ t : Fin grid0.N, _)
theorem idx_o : ∀ t : Fin cfg0.N, win0_9.index t = ![t.val / 9, 0] ∧ win0_10.index t = ![t.val / 9, t.val % 9] ∧ win0_11.index t = ![t.val / 9, 0] := (by decide +kernel : ∀ t : Fin grid0.N, _)

/-- The activations at row `R` of the tokens, the two leading axes taken as one. -/
def rowX (X : FVec Ideal S2x1536x11520 .bf16) (R : Fin 3072) (k : Fin 11520) : EReal :=
  X (ix3 ⟨R.val / 1536, by omega⟩ ⟨R.val % 1536, by omega⟩ k)

theorem blk_x (t : Fin cfg0.N) (r : Fin 256) (k : Fin 1280) : (iblk m c 0 t : FVec Ideal S256x1280 .bf16) (ix2 r k)
    = rowX (aX m c) ⟨256 * (t.val / 9) + r.val, by have := tlt t; omega⟩ ⟨1280 * (t.val % 9) + k.val, by omega⟩ := by
  unfold rowX
  blk_simp [iblk, idx_x t]
  entry_read
  pointwise []
  blk_ext [idx_x t]

theorem blk_w (t : Fin cfg0.N) (ht : t.val < 9) (k : Fin 1280) (n : Fin 960) : (iblk m c 1 t : IVec S1280x960 8) (ix2 k n)
    = aW m c (ix2 ⟨1280 * t.val + k.val, by omega⟩ n) := by
  blk_ext [iblk, V, (idx_w t ht).1]

theorem blk_slo (t : Fin cfg0.N) (ht : t.val < 9) (g : Fin 20) (n : Fin 960) : (iblk m c 2 t : FVec Ideal S1x20x960 .bf16) (ix3 0 g n)
    = aS m c (ix2 ⟨20 * t.val + g.val, by omega⟩ ⟨2 * n.val, by omega⟩) := by
  blk_simp [iblk, (idx_w t ht).2.1]
  entry_read
  pointwise []
  blk_ext [(idx_w t ht).2.1]

theorem blk_shi (t : Fin cfg0.N) (ht : t.val < 9) (g : Fin 20) (n : Fin 960) : (iblk m c 3 t : FVec Ideal S1x20x960 .bf16) (ix3 0 g n)
    = aS m c (ix2 ⟨20 * t.val + g.val, by omega⟩ ⟨1 + 2 * n.val, by omega⟩) := by
  blk_simp [iblk, (idx_w t ht).2.2.1]
  entry_read
  pointwise []
  blk_ext [(idx_w t ht).2.2.1]

theorem blk_zlo (t : Fin cfg0.N) (ht : t.val < 9) (g : Fin 20) (n : Fin 960) : (iblk m c 4 t : FVec Ideal S1x20x960 .bf16) (ix3 0 g n)
    = aZ m c (ix2 ⟨20 * t.val + g.val, by omega⟩ ⟨2 * n.val, by omega⟩) := by
  blk_simp [iblk, (idx_w t ht).2.2.2.1]
  entry_read
  pointwise []
  blk_ext [(idx_w t ht).2.2.2.1]

theorem blk_zhi (t : Fin cfg0.N) (ht : t.val < 9) (g : Fin 20) (n : Fin 960) : (iblk m c 5 t : FVec Ideal S1x20x960 .bf16) (ix3 0 g n)
    = aZ m c (ix2 ⟨20 * t.val + g.val, by omega⟩ ⟨1 + 2 * n.val, by omega⟩) := by
  blk_simp [iblk, (idx_w t ht).2.2.2.2]
  entry_read
  pointwise []
  blk_ext [(idx_w t ht).2.2.2.2]

theorem blk_l1 (t : Fin cfg0.N) (l : Fin 64) (k : Fin 11520) : (iblk m c 6 t : FVec Ideal S64x11520 .bf16) (ix2 l k)
    = aL1 m c (ix2 k l) := by
  blk_simp [iblk, (idx_l t).1]
  entry_read
  pointwise []
  blk_ext [(idx_l t).1]

theorem blk_l2lo (t : Fin cfg0.N) (n : Fin 960) (l : Fin 64) : (iblk m c 7 t : FVec Ideal S960x64 .bf16) (ix2 n l)
    = aL2 m c (ix2 l ⟨2 * n.val, by omega⟩) := by
  blk_simp [iblk, (idx_l t).2.1]
  entry_read
  pointwise []
  blk_ext [(idx_l t).2.1]

theorem blk_l2hi (t : Fin cfg0.N) (n : Fin 960) (l : Fin 64) : (iblk m c 8 t : FVec Ideal S960x64 .bf16) (ix2 n l)
    = aL2 m c (ix2 l ⟨1 + 2 * n.val, by omega⟩) := by
  blk_simp [iblk, (idx_l t).2.2]
  entry_read
  pointwise []
  blk_ext [(idx_l t).2.2]

end Cert.KernelIdeal.Hand

end
-- ==== Proof.Values.lean ====
/-
  What the kernel computes, in plain sums: the scale of each group of 64 activations, their codes, the activations the
  codes stand for, the weights, and the three accumulators at the end of a grid row as sums over all 11520 columns.
-/
module

public import proofs.«01_k».proof.Proof.Pure
public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe

/-- The scale of group `G` of token `R`. -/
def gscale (X : FVec Ideal S2x1536x11520 .bf16) (R : Fin 3072) (G : Fin 180) : EReal :=
  Quant.scaleOf (Quant.amax fun k => rowX X R ⟨G.val * 64 + k.val, by omega⟩)

/-- The code of entry `K` of token `R`. -/
def code (X : FVec Ideal S2x1536x11520 .bf16) (R : Fin 3072) (K : Fin 11520) : EReal :=
  Quant.quant (rowX X R K) (gscale X R ⟨K.val / 64, by omega⟩)

/-- The activation that code stands for. -/
def deq (X : FVec Ideal S2x1536x11520 .bf16) (R : Fin 3072) (K : Fin 11520) : EReal :=
  code X R K * gscale X R ⟨K.val / 64, by omega⟩

/-- The weight of row `K` and column `2n`, from the low nibble, -/
def wlo (W : IVec S11520x960 8) (S : FVec Ideal S180x1920 .f32) (Z : FVec Ideal S180x1920 .bf16) (K : Fin 11520) (n : Fin 960) : EReal :=
  (Quant.nibLo (W (ix2 K n)) - Z (ix2 ⟨K.val / 64, by omega⟩ ⟨2 * n.val, by omega⟩)) * S (ix2 ⟨K.val / 64, by omega⟩ ⟨2 * n.val, by omega⟩)

/-- and of column `2n + 1`, from the high. -/
def whi (W : IVec S11520x960 8) (S : FVec Ideal S180x1920 .f32) (Z : FVec Ideal S180x1920 .bf16) (K : Fin 11520) (n : Fin 960) : EReal :=
  (Quant.nibHi (W (ix2 K n)) - Z (ix2 ⟨K.val / 64, by omega⟩ ⟨1 + 2 * n.val, by omega⟩)) * S (ix2 ⟨K.val / 64, by omega⟩ ⟨1 + 2 * n.val, by omega⟩)

variable (m : (ℓ : Loc nD τ sig) → Buf (Elt Ideal) ℓ) (c : Dev nD)

/-- The token a block row is. -/
abbrev tok (t : Fin cfg0.N) (r : Fin 256) : Fin 3072 := ⟨256 * (t.val / 9) + r.val, by have := tlt t; omega⟩

/-- The column a block column is. -/
abbrev col (t : Fin cfg0.N) (k : Fin 1280) : Fin 11520 := ⟨1280 * (t.val % 9) + k.val, by omega⟩

theorem scale_blk (t : Fin cfg0.N) (g : Fin 20) (r : Fin 256) :
    k0_pay10 (F := Ideal) (iblk m c 0 t) (ix3 g 0 r) = gscale (aX m c) (tok t r) ⟨20 * (t.val % 9) + g.val, by omega⟩ := by
  refine (pay10_at (iblk m c 0 t) g r).trans (congrArg Quant.scaleOf (congrArg Quant.amax (funext fun k => ?_)))
  refine (blk_x m c t r _).trans (congrArg (rowX (aX m c) (tok t r)) (Fin.ext ?_))
  show 1280 * (t.val % 9) + (g.val * 64 + k.val) = (20 * (t.val % 9) + g.val) * 64 + k.val
  omega

theorem gscale_ne (X : FVec Ideal S2x1536x11520 .bf16) (R : Fin 3072) (G : Fin 180) : gscale X R G ≠ 0 := Quant.scaleOf_ne _

theorem scale_blk' (t : Fin cfg0.N) (k : Fin 1280) (g : Fin 20) (hg : g.val = k.val / 64) (r : Fin 256) :
    k0_pay10 (F := Ideal) (iblk m c 0 t) (ix3 g 0 r) = gscale (aX m c) (tok t r) ⟨(col t k).val / 64, by omega⟩ := by
  refine (scale_blk m c t g r).trans (congrArg (gscale (aX m c) (tok t r)) (Fin.ext ?_))
  show 20 * (t.val % 9) + g.val = (1280 * (t.val % 9) + k.val) / 64
  omega

theorem xdq_blk (t : Fin cfg0.N) (k : Fin 1280) (r : Fin 256) :
    xdq (F := Ideal) (iblk m c 0 t) (ix2 k r) = deq (aX m c) (tok t r) (col t k) := by
  have e := scale_blk' m c t k ⟨k.val / 64, by omega⟩ rfl r
  refine (pay14_at (iblk m c 0 t) (k0_pay10 (iblk m c 0 t)) k r (by rw [e]; exact gscale_ne _ _ _)).trans ?_
  unfold deq code
  exact congrArg₂ (· * ·) (congrArg₂ Quant.quant (blk_x m c t r k) e) e

theorem codes_blk (t : Fin cfg0.N) (r : Fin 256) (k : Fin 640) :
    codes (F := Ideal) (iblk m c 0 t) (ix2 r k)
      = Quant.pack (code (aX m c) (tok t r) (col t ⟨2 * k.val, by omega⟩)) (code (aX m c) (tok t r) (col t ⟨2 * k.val + 1, by omega⟩)) := by
  have e0 := scale_blk' m c t ⟨2 * k.val, by omega⟩ ⟨k.val / 32, by omega⟩ (by show k.val / 32 = 2 * k.val / 64; omega) r
  have e1 := scale_blk' m c t ⟨2 * k.val + 1, by omega⟩ ⟨k.val / 32, by omega⟩ (by show k.val / 32 = (2 * k.val + 1) / 64; omega) r
  refine (pay15_at (iblk m c 0 t) (k0_pay10 (iblk m c 0 t)) r k (by rw [e0]; exact gscale_ne _ _ _)).trans ?_
  unfold code
  exact congrArg₂ Quant.pack (congrArg₂ Quant.quant (blk_x m c t r _) e0) (congrArg₂ Quant.quant (blk_x m c t r _) e1)

theorem WLo_at (n : Fin 960) (K : Fin 11520) : WLo m c (ix2 n K) = wlo (aW m c) (aS m c) (aZ m c) K n := by
  have hv : (pt (K.val / 1280)).val = K.val / 1280 := Nat.mod_eq_of_lt (by omega)
  have ht : (pt (K.val / 1280)).val < 9 := by omega
  refine (pay1_at _ _ _ ⟨K.val % 1280, by omega⟩ n).trans ?_
  unfold wlo
  have e1 : ∀ h, (⟨1280 * (pt (K.val / 1280)).val + K.val % 1280, h⟩ : Fin 11520) = K := fun h => Fin.ext (by show 1280 * (pt (K.val / 1280)).val + K.val % 1280 = K.val; omega)
  have e2 : ∀ h h', (⟨20 * (pt (K.val / 1280)).val + K.val % 1280 / 64, h⟩ : Fin 180) = ⟨K.val / 64, h'⟩ := fun h h' => Fin.ext (by show 20 * (pt (K.val / 1280)).val + K.val % 1280 / 64 = K.val / 64; omega)
  refine congrArg₂ (· * ·) (congrArg₂ (· - ·) (congrArg Quant.nibLo ?_) ?_) ?_
  · exact (blk_w m c _ ht _ n).trans (congrArg (fun z => aW m c (ix2 z n)) (e1 _))
  · exact (blk_zlo m c _ ht _ n).trans (congrArg (fun z => aZ m c (ix2 z _)) (e2 _ _))
  · exact (blk_slo m c _ ht _ n).trans (congrArg (fun z => aS m c (ix2 z _)) (e2 _ _))

theorem WHi_at (n : Fin 960) (K : Fin 11520) : WHi m c (ix2 n K) = whi (aW m c) (aS m c) (aZ m c) K n := by
  have hv : (pt (K.val / 1280)).val = K.val / 1280 := Nat.mod_eq_of_lt (by omega)
  have ht : (pt (K.val / 1280)).val < 9 := by omega
  refine (pay3_at _ _ _ ⟨K.val % 1280, by omega⟩ n).trans ?_
  unfold whi
  have e1 : ∀ h, (⟨1280 * (pt (K.val / 1280)).val + K.val % 1280, h⟩ : Fin 11520) = K := fun h => Fin.ext (by show 1280 * (pt (K.val / 1280)).val + K.val % 1280 = K.val; omega)
  have e2 : ∀ h h', (⟨20 * (pt (K.val / 1280)).val + K.val % 1280 / 64, h⟩ : Fin 180) = ⟨K.val / 64, h'⟩ := fun h h' => Fin.ext (by show 20 * (pt (K.val / 1280)).val + K.val % 1280 / 64 = K.val / 64; omega)
  refine congrArg₂ (· * ·) (congrArg₂ (· - ·) (congrArg Quant.nibHi ?_) ?_) ?_
  · exact (blk_w m c _ ht _ n).trans (congrArg (fun z => aW m c (ix2 z n)) (e1 _))
  · exact (blk_zhi m c _ ht _ n).trans (congrArg (fun z => aZ m c (ix2 z _)) (e2 _ _))
  · exact (blk_shi m c _ ht _ n).trans (congrArg (fun z => aS m c (ix2 z _)) (e2 _ _))

theorem strip_at (t : Fin cfg0.N) (d : FVec Ideal S960x11520 .bf16) (n : Fin 960) (k : Fin 1280) :
    strip (F := Ideal) (grid0.coords t) d (ix2 n k) = d (ix2 n (col t k)) := by
  refine congrArg d (funext fun a => Fin.ext ?_)
  have ho := off3_eq t
  match a with
  | ⟨0, _⟩ =>
    change k0_off3 (grid0.coords t) 0 + 1 * n.val = n.val
    have h := congrFun ho 0; change k0_off3 (grid0.coords t) 0 = 0 at h; omega
  | ⟨1, _⟩ =>
    change k0_off3 (grid0.coords t) 1 + 1 * k.val = 1280 * (t.val % 9) + k.val
    have h := congrFun ho 1; change k0_off3 (grid0.coords t) 1 = 1280 * (t.val % 9) at h; omega

theorem stripL_at (t : Fin cfg0.N) (d : FVec Ideal S64x11520 .bf16) (n : Fin 64) (k : Fin 1280) :
    stripL (F := Ideal) (grid0.coords t) d (ix2 n k) = d (ix2 n (col t k)) := by
  refine congrArg d (funext fun a => Fin.ext ?_)
  have ho := off4_eq t
  match a with
  | ⟨0, _⟩ =>
    change k0_off4 (grid0.coords t) 0 + 1 * n.val = n.val
    have h := congrFun ho 0; change k0_off4 (grid0.coords t) 0 = 0 at h; omega
  | ⟨1, _⟩ =>
    change k0_off4 (grid0.coords t) 1 + 1 * k.val = 1280 * (t.val % 9) + k.val
    have h := congrFun ho 1; change k0_off4 (grid0.coords t) 1 = 1280 * (t.val % 9) at h; omega

/-- A sum kept along a grid row and started afresh at its first point is, at the row's end, the sum of the nine terms. -/
theorem row_sum (a : ℕ → EReal) (i : ℕ) (f : Fin 9 → EReal)
    (h : ∀ j : Fin 9, a (9 * i + j.val + 1) = (if j.val = 0 then 0 else a (9 * i + j.val)) + f j) : a (9 * i + 9) = ∑ j : Fin 9, f j := by
  have key : ∀ (n : ℕ) (hn : n < 9), a (9 * i + n + 1) = ∑ j : Fin (n + 1), f ⟨j.val, by omega⟩ := by
    intro n
    induction n with
    | zero =>
      intro hn
      refine (h 0).trans ?_
      rw [Fin.sum_univ_one]
      exact (congrArg (· + f 0) (if_pos rfl)).trans (zero_add _)
    | succ n ih =>
      intro hn
      refine (h ⟨n + 1, hn⟩).trans ?_
      rw [Fin.sum_univ_castSucc, if_neg (Nat.succ_ne_zero n)]
      exact congrArg (· + f ⟨n + 1, hn⟩) (ih (by omega))
  exact key 8 (by omega)

theorem pt_row (i : ℕ) (hi : i < 12) (j : Fin 9) : (pt (9 * i + j.val)).val = 9 * i + j.val := Nat.mod_eq_of_lt (by omega)

/-- A row's sum of nine products of 1280 columns is the sum over all the columns. -/
theorem row_total (a : ℕ → EReal) (t : Fin cfg0.N) (ht : t.val % 9 = 8) (G : Fin 11520 → EReal)
    (h : ∀ u : Fin cfg0.N, u.val / 9 = t.val / 9 →
      a (u.val + 1) = (if u.val % 9 = 0 then 0 else a u.val) + ∑ k : Fin 1280, G (col u k)) :
    a (t.val + 1) = ∑ K : Fin 11520, G K := by
  have hi : t.val / 9 < 12 := by have := tlt t; omega
  have e := row_sum a (t.val / 9) (fun j => ∑ k : Fin 1280, G ⟨j.val * 1280 + k.val, by omega⟩) fun j => by
    have hv := pt_row (t.val / 9) hi j
    have hm : (9 * (t.val / 9) + j.val) % 9 = j.val := by omega
    have := h (pt (9 * (t.val / 9) + j.val)) (by omega)
    rw [hv, hm] at this
    refine this.trans (congrArg ((if j.val = 0 then 0 else a (9 * (t.val / 9) + j.val)) + ·) (Finset.sum_congr rfl fun k _ => congrArg G (Fin.ext ?_)))
    show 1280 * ((pt (9 * (t.val / 9) + j.val)).val % 9) + k.val = j.val * 1280 + k.val
    omega
  rw [show t.val + 1 = 9 * (t.val / 9) + 9 by omega, e, Fin.sum_univ_tiles 9 1280 rfl G]

/-- The low accumulator at a row's end: each weight column's product with the row's tokens. -/
theorem accLo_end (t : Fin cfg0.N) (ht : t.val % 9 = 8) (n : Fin 960) (r : Fin 256) :
    (accLo m c (t.val + 1) : FVec Ideal S960x256 .f32) (ix2 n r)
      = ∑ K : Fin 11520, wlo (aW m c) (aS m c) (aZ m c) K n * deq (aX m c) (tok t r) K := by
  refine row_total (fun s => (accLo m c s : FVec Ideal S960x256 .f32) (ix2 n r)) t ht
    (fun K => wlo (aW m c) (aS m c) (aZ m c) K n * deq (aX m c) (tok t r) K) fun u hu => ?_
  show aLo (F := Ideal) (grid0.coords (pt u.val)) (iblk m c 0 (pt u.val)) (WLo m c) (accLo m c u.val) (ix2 n r) = _
  rw [pt_val]
  have hr : tok u r = tok t r := Fin.ext (by show 256 * (u.val / 9) + r.val = 256 * (t.val / 9) + r.val; omega)
  refine (pay17_at _ _ _ n r).trans (congrArg₂ (· + ·) ?_ (Finset.sum_congr rfl fun k _ => congrArg₂ (· * ·) ?_ ?_))
  · by_cases h0 : u.val % 9 = 0
    · rw [if_pos ((cond2_iff u).2 h0), if_pos h0]; exact pay4_at n r
    · rw [if_neg (fun e => h0 ((cond2_iff u).1 e)), if_neg h0]
  · exact (strip_at u _ n k).trans (WLo_at m c n (col u k))
  · exact (xdq_blk m c u k r).trans (by rw [hr])

/-- The high accumulator at a row's end. -/
theorem accHi_end (t : Fin cfg0.N) (ht : t.val % 9 = 8) (n : Fin 960) (r : Fin 256) :
    (accHi m c (t.val + 1) : FVec Ideal S960x256 .f32) (ix2 n r)
      = ∑ K : Fin 11520, whi (aW m c) (aS m c) (aZ m c) K n * deq (aX m c) (tok t r) K := by
  refine row_total (fun s => (accHi m c s : FVec Ideal S960x256 .f32) (ix2 n r)) t ht
    (fun K => whi (aW m c) (aS m c) (aZ m c) K n * deq (aX m c) (tok t r) K) fun u hu => ?_
  show aHi (F := Ideal) (grid0.coords (pt u.val)) (iblk m c 0 (pt u.val)) (WHi m c) (accHi m c u.val) (ix2 n r) = _
  rw [pt_val]
  have hr : tok u r = tok t r := Fin.ext (by show 256 * (u.val / 9) + r.val = 256 * (t.val / 9) + r.val; omega)
  refine (pay18_at _ _ _ n r).trans (congrArg₂ (· + ·) ?_ (Finset.sum_congr rfl fun k _ => congrArg₂ (· * ·) ?_ ?_))
  · by_cases h0 : u.val % 9 = 0
    · rw [if_pos ((cond2_iff u).2 h0), if_pos h0]; exact pay5_at n r
    · rw [if_neg (fun e => h0 ((cond2_iff u).1 e)), if_neg h0]
  · exact (strip_at u _ n k).trans (WHi_at m c n (col u k))
  · exact (xdq_blk m c u k r).trans (by rw [hr])

/-- The low-rank accumulator at a row's end: the tokens times the first low-rank factor. -/
theorem accH_end (t : Fin cfg0.N) (ht : t.val % 9 = 8) (l : Fin 64) (r : Fin 256) :
    (accH m c (t.val + 1) : FVec Ideal S64x256 .f32) (ix2 l r)
      = ∑ K : Fin 11520, aL1 m c (ix2 K l) * rowX (aX m c) (tok t r) K := by
  refine row_total (fun s => (accH m c s : FVec Ideal S64x256 .f32) (ix2 l r)) t ht
    (fun K => (aL1 m c (ix2 K l) * rowX (aX m c) (tok t r) K : EReal)) fun u hu => ?_
  show aH (F := Ideal) (grid0.coords (pt u.val)) (iblk m c 0 (pt u.val)) (iblk m c 6 (pt u.val)) (accH m c u.val) (ix2 l r) = _
  rw [pt_val]
  have hr : tok u r = tok t r := Fin.ext (by show 256 * (u.val / 9) + r.val = 256 * (t.val / 9) + r.val; omega)
  refine (pay19_at _ _ _ l r).trans (congrArg₂ (· + ·) ?_ (Finset.sum_congr rfl fun k _ => congrArg₂ (· * ·) ?_ ?_))
  · by_cases h0 : u.val % 9 = 0
    · rw [if_pos ((cond2_iff u).2 h0), if_pos h0]; exact pay6_at l r
    · rw [if_neg (fun e => h0 ((cond2_iff u).1 e)), if_neg h0]
  · exact (stripL_at u _ l k).trans (blk_l1 m c u l (col u k))
  · exact (blk_x m c u r k).trans (congrArg (fun z => rowX (aX m c) z (col u k)) hr)

/-- The scale scratch at a row's end. -/
theorem scaleT_at (t : Fin cfg0.N) (g : Fin 180) (r : Fin 256) :
    scaleT m c (t.val / 9) (ix3 ⟨g.val / 20, by omega⟩ ⟨g.val % 20, by omega⟩ r) = gscale (aX m c) (tok t r) g := by
  have hv := pt_row (t.val / 9) (by have := tlt t; omega) ⟨g.val / 20, by omega⟩
  change (pt (9 * (t.val / 9) + g.val / 20)).val = 9 * (t.val / 9) + g.val / 20 at hv
  refine (pay16_at _ ⟨g.val % 20, by omega⟩ r).trans ((scale_blk m c (pt (9 * (t.val / 9) + g.val / 20)) _ r).trans (congrArg₂ (gscale (aX m c)) (Fin.ext ?_) (Fin.ext ?_)))
  · show 256 * ((pt (9 * (t.val / 9) + g.val / 20)).val / 9) + r.val = 256 * (t.val / 9) + r.val
    omega
  · show 20 * ((pt (9 * (t.val / 9) + g.val / 20)).val % 9) + g.val % 20 = g.val
    omega

end Cert.KernelIdeal.Hand

end
-- ==== Proof.RefTerm.lean ====
/- The reference's results as terms of its arguments, and their entries over the scalars. -/
module

public import proofs.«01_k».proof.Proof.Gen.ReferenceIdeal.Run
public import proofs.«01_k».proof.Proof.Scalar
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe

/-- The activations in groups of 64, -/
def rX (X : FVec Ideal S2x1536x11520 .bf16) : FVec Ideal S2x1536x180x64 .f32 :=
  shapeCast _ (extf .f32 X bitsLt_bf16_f32) shapeCasts_S2x1536x11520_S2x1536x180x64

/-- the largest absolute value of each group, -/
def rMax (X : FVec Ideal S2x1536x11520 .bf16) : FVec Ideal S2x1536x180 .f32 :=
  Host.reduce FloatOps.maximumf (Host.absf (rX X)) (constant S_ .f32 0xFF800000#32) reducesTo_S2x1536x180x64_S2x1536x180_d3 h_S_

/-- the scale of each group from its largest absolute value, -/
def rScaleOf (M : FVec Ideal S2x1536x180 .f32) : FVec Ideal S2x1536x180 .f32 :=
  select (cmpf .ogt M (broadcastInDim S2x1536x180 ![] bcast_S_S2x1536x180 (constant S_ .f32 0x00000000#32)))
    (Host.divf M (broadcastInDim S2x1536x180 ![] bcast_S_S2x1536x180 (constant S_ .f32 0x40E00000#32)))
    (broadcastInDim S2x1536x180 ![] bcast_S_S2x1536x180 (id (constant S_ .f32 0x3F800000#32)))

/-- the rounded and clipped quotients by given scales, as integers, -/
def rCodeOf (X : FVec Ideal S2x1536x11520 .bf16) (s : FVec Ideal S2x1536x180 .f32) : IVec S2x1536x11520 32 :=
  id (shapeCast _ (fptosi 32 (minimumf (broadcastInDim S2x1536x180x64 ![] bcast_S_S2x1536x180x64 (id (constant S_ .f32 0x40E00000#32))) (maximumf (broadcastInDim S2x1536x180x64 ![] bcast_S_S2x1536x180x64 (id (constant S_ .f32 0xC1000000#32))) (Host.roundeven (Host.divf (rX X) (broadcastInDim S2x1536x180x64 ![0, 1, 2, 3] bcast_S2x1536x180x1_S2x1536x180x64_0_1_2_3 (broadcastInDim S2x1536x180x1 ![0, 1, 2] bcast_S2x1536x180_S2x1536x180x1_0_1_2 s))))))) shapeCasts_S2x1536x180x64_S2x1536x11520)

/-- and the activations given codes and scales stand for. -/
def rDeqOf (q : IVec S2x1536x11520 32) (s : FVec Ideal S2x1536x180 .f32) : FVec Ideal S2x1536x11520 .bf16 :=
  shapeCast _ (mulf (sitofp .bf16 (shapeCast _ q shapeCasts_S2x1536x11520_S2x1536x180x64)) (broadcastInDim S2x1536x180x64 ![0, 1, 2, 3] bcast_S2x1536x180x1_S2x1536x180x64_0_1_2_3 (broadcastInDim S2x1536x180x1 ![0, 1, 2] bcast_S2x1536x180_S2x1536x180x1_0_1_2 (truncf .bf16 (id s) bitsLt_bf16_f32)))) shapeCasts_S2x1536x180x64_S2x1536x11520

/-- The scales, the codes and the activations they stand for, of the activations alone. -/
def rScale (X : FVec Ideal S2x1536x11520 .bf16) : FVec Ideal S2x1536x180 .f32 := rScaleOf (rMax X)
@[inherit_doc rScale] def rCode (X : FVec Ideal S2x1536x11520 .bf16) : IVec S2x1536x11520 32 := rCodeOf X (rScale X)
@[inherit_doc rScale] def rDeq (X : FVec Ideal S2x1536x11520 .bf16) : FVec Ideal S2x1536x11520 .bf16 := rDeqOf (rCode X) (rScale X)

/-- The weights of the even columns, from the low nibbles, -/
def rLo (W : IVec S11520x960 8) (S : FVec Ideal S180x1920 .f32) (Z : FVec Ideal S180x1920 .bf16) : FVec Ideal S11520x960 .bf16 :=
  shapeCast _ (mulf (subf (shapeCast _ (uitofp .bf16 (andi (extui 32 W natLt_8_32) (broadcastInDim S11520x960 ![] bcast_S_S11520x960 (constantI S_ 32 15#32)))) shapeCasts_S11520x960_S180x64x960) (broadcastInDim S180x64x960 ![0, 1, 2] bcast_S180x1x960_S180x64x960_0_1_2 (broadcastInDim S180x1x960 ![0, 2] bcast_S180x960_S180x1x960_0_2 (Host.slice S180x960 ![0, 0] ![1, 2] Z slicesBy_S180x1920_S180x960_0s1_0s2)))) (broadcastInDim S180x64x960 ![0, 1, 2] bcast_S180x1x960_S180x64x960_0_1_2 (broadcastInDim S180x1x960 ![0, 2] bcast_S180x960_S180x1x960_0_2 (truncf .bf16 (Host.slice S180x960 ![0, 0] ![1, 2] S slicesBy_S180x1920_S180x960_0s1_0s2) bitsLt_bf16_f32)))) shapeCasts_S180x64x960_S11520x960

/-- and of the odd columns, from the high ones. -/
def rHi (W : IVec S11520x960 8) (S : FVec Ideal S180x1920 .f32) (Z : FVec Ideal S180x1920 .bf16) : FVec Ideal S11520x960 .bf16 :=
  shapeCast _ (mulf (subf (shapeCast _ (uitofp .bf16 (Host.shrui (extui 32 W natLt_8_32) (broadcastInDim S11520x960 ![] bcast_S_S11520x960 (constantI S_ 32 4#32)))) shapeCasts_S11520x960_S180x64x960) (broadcastInDim S180x64x960 ![0, 1, 2] bcast_S180x1x960_S180x64x960_0_1_2 (broadcastInDim S180x1x960 ![0, 2] bcast_S180x960_S180x1x960_0_2 (Host.slice S180x960 ![0, 1] ![1, 2] Z slicesBy_S180x1920_S180x960_0s1_1s2)))) (broadcastInDim S180x64x960 ![0, 1, 2] bcast_S180x1x960_S180x64x960_0_1_2 (broadcastInDim S180x1x960 ![0, 2] bcast_S180x960_S180x1x960_0_2 (truncf .bf16 (Host.slice S180x960 ![0, 1] ![1, 2] S slicesBy_S180x1920_S180x960_0s1_1s2) bitsLt_bf16_f32)))) shapeCasts_S180x64x960_S11520x960

/-- The first result: the products with the two halves of the columns side by side, plus the low-rank product. -/
def rY (d : FVec Ideal S2x1536x11520 .bf16) (wl wh : FVec Ideal S11520x960 .bf16) (X : FVec Ideal S2x1536x11520 .bf16)
    (L1 : FVec Ideal S11520x64 .bf16) (L2 : FVec Ideal S64x1920 .bf16) : FVec Ideal S3072x1920 .bf16 :=
  let lo : FVec Ideal S2x1536x960 .f32 := Host.dotGeneral dot_S2x1536x11520_S11520x960_S2x1536x960_2_0_01_1_n_n none d wl
  let hi : FVec Ideal S2x1536x960 .f32 := Host.dotGeneral dot_S2x1536x11520_S11520x960_S2x1536x960_2_0_01_1_n_n none d wh
  let h : FVec Ideal S2x1536x64 .f32 := Host.dotGeneral dot_S2x1536x11520_S11520x64_S2x1536x64_2_0_01_1_n_n none X L1
  let lr : FVec Ideal S2x1536x1920 .f32 := Host.dotGeneral dot_S2x1536x64_S64x1920_S2x1536x1920_2_0_01_1_n_n none (truncf .bf16 h bitsLt_bf16_f32) L2
  shapeCast _ (truncf .bf16 (shapeCast _ (addf (concatenate S2x1536x960x2 3 [⟨S2x1536x960x1, (broadcastInDim S2x1536x960x1 ![0, 1, 2] bcast_S2x1536x960_S2x1536x960x1_0_1_2 lo)⟩, ⟨S2x1536x960x1, (broadcastInDim S2x1536x960x1 ![0, 1, 2] bcast_S2x1536x960_S2x1536x960x1_0_1_2 hi)⟩] concatenates_S2x1536x960x1_S2x1536x960x1_S2x1536x960x2_d3)
    (shapeCast _ lr shapeCasts_S2x1536x1920_S2x1536x960x2)) shapeCasts_S2x1536x960x2_S2x1536x1920) bitsLt_bf16_f32) shapeCasts_S2x1536x1920_S3072x1920

/-- The second result: two codes to a byte. -/
def rPacked (q : IVec S2x1536x11520 32) : IVec S3072x5760 8 :=
  shapeCast _ (trunci 8 (ori (andi (Host.slice S2x1536x5760 ![0, 0, 0] ![1, 1, 2] q slicesBy_S2x1536x11520_S2x1536x5760_0s1_0s1_0s2) (broadcastInDim S2x1536x5760 ![] bcast_S_S2x1536x5760 (constantI S_ 32 15#32))) (Host.shli (andi (Host.slice S2x1536x5760 ![0, 0, 1] ![1, 1, 2] q slicesBy_S2x1536x11520_S2x1536x5760_0s1_0s1_1s2) (broadcastInDim S2x1536x5760 ![] bcast_S_S2x1536x5760 (constantI S_ 32 15#32))) (broadcastInDim S2x1536x5760 ![] bcast_S_S2x1536x5760 (constantI S_ 32 4#32)))) natLt_8_32) shapeCasts_S2x1536x5760_S3072x5760

/-- The third result: the scales, one row per token. -/
def rScales (s : FVec Ideal S2x1536x180 .f32) : FVec Ideal S3072x180 .f32 :=
  shapeCast _ (id s) shapeCasts_S2x1536x180_S3072x180

-- Each of these at an index.

theorem rMax_at (X : FVec Ideal S2x1536x11520 .bf16) (b : Fin 2) (s : Fin 1536) (g : Fin 180) :
    rMax X (ix3 b s g) = Quant.amax (fun k => X (ix3 b s ⟨g.val * 64 + k.val, by omega⟩)) := by
  pointwise [rMax, rX, Quant.amax]

theorem rScaleOf_at (M : FVec Ideal S2x1536x180 .f32) (b : Fin 2) (s : Fin 1536) (g : Fin 180) :
    rScaleOf M (ix3 b s g) = Quant.scaleOf (M (ix3 b s g)) := by
  pointwise [rScaleOf, Quant.scaleOf, id]

theorem rCodeOf_at (X : FVec Ideal S2x1536x11520 .bf16) (S : FVec Ideal S2x1536x180 .f32) (b : Fin 2) (s : Fin 1536) (k : Fin 11520) :
    rCodeOf X S (ix3 b s k) = FloatOps.fptosi (F := Ideal) (φ := .f32) 32 (Quant.quant (X (ix3 b s k)) (S (ix3 b s ⟨k.val / 64, by omega⟩))) := by
  pointwise [rCodeOf, rX, Quant.quant, id]

theorem rDeqOf_at (q : IVec S2x1536x11520 32) (S : FVec Ideal S2x1536x180 .f32) (b : Fin 2) (s : Fin 1536) (k : Fin 11520) :
    rDeqOf q S (ix3 b s k) = (FloatOps.sitofp (F := Ideal) FTy.bf16 (q (ix3 b s k)) * S (ix3 b s ⟨k.val / 64, by omega⟩) : EReal) := by
  pointwise [rDeqOf, id]

theorem rLo_at (W : IVec S11520x960 8) (S : FVec Ideal S180x1920 .f32) (Z : FVec Ideal S180x1920 .bf16) (k : Fin 11520) (n : Fin 960) :
    rLo W S Z (ix2 k n) = ((Quant.nibLo (W (ix2 k n)) - Z (ix2 ⟨k.val / 64, by omega⟩ ⟨2 * n.val, by omega⟩))
      * S (ix2 ⟨k.val / 64, by omega⟩ ⟨2 * n.val, by omega⟩) : EReal) := by
  pointwise [rLo, Quant.nibLo]

theorem rHi_at (W : IVec S11520x960 8) (S : FVec Ideal S180x1920 .f32) (Z : FVec Ideal S180x1920 .bf16) (k : Fin 11520) (n : Fin 960) :
    rHi W S Z (ix2 k n) = ((Quant.nibHi (W (ix2 k n)) - Z (ix2 ⟨k.val / 64, by omega⟩ ⟨1 + 2 * n.val, by omega⟩))
      * S (ix2 ⟨k.val / 64, by omega⟩ ⟨1 + 2 * n.val, by omega⟩) : EReal) := by
  pointwise [rHi, Quant.nibHi]

theorem rY_at (d : FVec Ideal S2x1536x11520 .bf16) (wl wh : FVec Ideal S11520x960 .bf16) (X : FVec Ideal S2x1536x11520 .bf16)
    (L1 : FVec Ideal S11520x64 .bf16) (L2 : FVec Ideal S64x1920 .bf16) (r : Fin 3072) (n : Fin 1920) :
    rY d wl wh X L1 L2 (ix2 r n)
      = ((if _ : n.val % 2 < 1
          then (∑ x : Fin 11520, d (ix3 ⟨r.val / 1536, by omega⟩ ⟨r.val % 1536, by omega⟩ x) * wl (ix2 x ⟨n.val / 2, by omega⟩) : EReal)
          else ∑ x : Fin 11520, d (ix3 ⟨r.val / 1536, by omega⟩ ⟨r.val % 1536, by omega⟩ x) * wh (ix2 x ⟨n.val / 2, by omega⟩))
        + ∑ l : Fin 64, (∑ x : Fin 11520, X (ix3 ⟨r.val / 1536, by omega⟩ ⟨r.val % 1536, by omega⟩ x) * L1 (ix2 x l)) * L2 (ix2 l n) : EReal) := by
  pointwise [rY]

theorem rPacked_at (q : IVec S2x1536x11520 32) (r : Fin 3072) (n : Fin 5760) :
    rPacked q (ix2 r n) = Quant.packInt (q (ix3 ⟨r.val / 1536, by omega⟩ ⟨r.val % 1536, by omega⟩ ⟨2 * n.val, by omega⟩))
      (q (ix3 ⟨r.val / 1536, by omega⟩ ⟨r.val % 1536, by omega⟩ ⟨1 + 2 * n.val, by omega⟩)) := by
  pointwise [rPacked, Quant.packInt]

theorem rScales_at (s : FVec Ideal S2x1536x180 .f32) (r : Fin 3072) (n : Fin 180) :
    rScales s (ix2 r n) = s (ix3 ⟨r.val / 1536, by omega⟩ ⟨r.val % 1536, by omega⟩ n) := by
  pointwise [rScales, id]

end Cert.ReferenceIdeal.Hand

end
-- ==== Proof.Final.lean ====
/-
  The three result arrays after the run are the reference's three terms of the arguments.
-/
module

public import proofs.«01_k».proof.Proof.Track
public import proofs.«01_k».proof.Proof.Values
public import proofs.«01_k».proof.Proof.RefTerm

@[expose] public section

set_option maxRecDepth 16384

noncomputable section

namespace Cert.KernelIdeal.Hand

open Cert.KernelIdeal Cert.KernelIdeal.Gen
open Idealize.ShloMosaic Idealize.ShloMosaic.TcCoe
open Cert.ReferenceIdeal.Hand (rMax rScale rCode rDeq rScaleOf rCodeOf rDeqOf rLo rHi rY rPacked rScales)

variable (X : FVec Ideal S2x1536x11520 .bf16) (R : Fin 3072)

/-- The reference's scales, codes and dequantized activations at token `R`. -/
theorem rScale_row (G : Fin 180) : rScale X (ix3 ⟨R.val / 1536, by omega⟩ ⟨R.val % 1536, by omega⟩ G) = gscale X R G :=
  (Cert.ReferenceIdeal.Hand.rScaleOf_at (rMax X) _ _ G).trans (congrArg Quant.scaleOf (Cert.ReferenceIdeal.Hand.rMax_at X _ _ G))

@[inherit_doc rScale_row]
theorem rCode_row (K : Fin 11520) : rCode X (ix3 ⟨R.val / 1536, by omega⟩ ⟨R.val % 1536, by omega⟩ K)
    = FloatOps.fptosi (F := Ideal) (φ := .f32) 32 (code X R K) :=
  (Cert.ReferenceIdeal.Hand.rCodeOf_at X (rScale X) _ _ K).trans
    (congrArg (fun s => FloatOps.fptosi (F := Ideal) (φ := .f32) 32 (Quant.quant (rowX X R K) s)) (rScale_row X R _))

@[inherit_doc rScale_row]
theorem rDeq_row (K : Fin 11520) : rDeq X (ix3 ⟨R.val / 1536, by omega⟩ ⟨R.val % 1536, by omega⟩ K) = deq X R K :=
  (Cert.ReferenceIdeal.Hand.rDeqOf_at (rCode X) (rScale X) _ _ K).trans
    (congrArg₂ (fun a b : EReal => a * b)
      ((congrArg (FloatOps.sitofp (F := Ideal) FTy.bf16) (rCode_row X R K)).trans (Quant.quant_cast _ _)) (rScale_row X R _))

/-- The third result at an entry, -/
theorem rScales_row (G : Fin 180) : rScales (rScale X) (ix2 R G) = gscale X R G :=
  (Cert.ReferenceIdeal.Hand.rScales_at (rScale X) R G).trans (rScale_row X R G)

/-- the second, -/
theorem rPacked_row (n : Fin 5760) : rPacked (rCode X) (ix2 R n)
    = Quant.pack (code X R ⟨2 * n.val, by omega⟩) (code X R ⟨1 + 2 * n.val, by omega⟩) :=
  (Cert.ReferenceIdeal.Hand.rPacked_at (rCode X) R n).trans (congrArg₂ Quant.packInt (rCode_row X R _) (rCode_row X R _))

/-- and the first. -/
theorem rY_row (W : IVec S11520x960 8) (S : FVec Ideal S180x1920 .f32) (Z : FVec Ideal S180x1920 .bf16)
    (L1 : FVec Ideal S11520x64 .bf16) (L2 : FVec Ideal S64x1920 .bf16) (n : Fin 1920) :
    rY (rDeq X) (rLo W S Z) (rHi W S Z) X L1 L2 (ix2 R n)
      = ((if n.val % 2 = 0
          then (∑ K : Fin 11520, wlo W S Z K ⟨n.val / 2, by omega⟩ * deq X R K : EReal)
          else ∑ K : Fin 11520, whi W S Z K ⟨n.val / 2, by omega⟩ * deq X R K)
        + ∑ l : Fin 64, L2 (ix2 l n) * (∑ K : Fin 11520, L1 (ix2 K l) * rowX X R K) : EReal) := by
  refine (Cert.ReferenceIdeal.Hand.rY_at _ _ _ X L1 L2 R n).trans (congrArg₂ (fun a b : EReal => a + b) ?_ ?_)
  · by_cases h : n.val % 2 = 0
    · rw [dif_pos (by omega), if_pos h]
      refine Finset.sum_congr rfl fun K _ => ?_
      rw [mul_comm]
      exact congrArg₂ (fun a b : EReal => a * b) (Cert.ReferenceIdeal.Hand.rLo_at W S Z K _) (rDeq_row X R K)
    · rw [dif_neg (by omega), if_neg h]
      refine Finset.sum_congr rfl fun K _ => ?_
      rw [mul_comm]
      exact congrArg₂ (fun a b : EReal => a * b) (Cert.ReferenceIdeal.Hand.rHi_at W S Z K _) (rDeq_row X R K)
  · refine Finset.sum_congr rfl fun l _ => ?_
    rw [mul_comm]
    refine congrArg (fun a : EReal => L2 (ix2 l n) * a) (Finset.sum_congr rfl fun K _ => ?_)
    exact mul_comm _ _

variable (m : (ℓ : Loc nD τ sig) → Buf (Elt Ideal) ℓ) (c : Dev nD)

/-- What the kernel writes back of the first result at an entry. -/
theorem y_blk (t : Fin cfg0.N) (ht : t.val % 9 = 8) (r : Fin 256) (n : Fin 1920) :
    k0_pay20 (F := Ideal) (accH m c (t.val + 1)) (accLo m c (t.val + 1)) (iblk m c 7 t) (accHi m c (t.val + 1)) (iblk m c 8 t) (ix2 r n)
      = rY (rDeq (aX m c)) (rLo (aW m c) (aS m c) (aZ m c)) (rHi (aW m c) (aS m c) (aZ m c)) (aX m c) (aL1 m c) (aL2 m c) (ix2 (tok t r) n) := by
  refine (pay20_at _ _ _ _ _ n r).trans (Eq.trans ?_ (rY_row (aX m c) (tok t r) (aW m c) (aS m c) (aZ m c) (aL1 m c) (aL2 m c) n).symm)
  by_cases h : n.val % 2 = 0
  · rw [if_pos h, if_pos h]
    refine congrArg₂ (fun a b : EReal => a + b) (accLo_end m c t ht _ r) (Finset.sum_congr rfl fun l _ => congrArg₂ (fun a b : EReal => a * b) ?_ (accH_end m c t ht l r))
    exact (blk_l2lo m c t _ l).trans (congrArg (fun z => aL2 m c (ix2 l z)) (Fin.ext (by show 2 * (n.val / 2) = n.val; omega)))
  · rw [if_neg h, if_neg h]
    refine congrArg₂ (fun a b : EReal => a + b) (accHi_end m c t ht _ r) (Finset.sum_congr rfl fun l _ => congrArg₂ (fun a b : EReal => a * b) ?_ (accH_end m c t ht l r))
    exact (blk_l2hi m c t _ l).trans (congrArg (fun z => aL2 m c (ix2 l z)) (Fin.ext (by show 1 + 2 * (n.val / 2) = n.val; omega)))

/-- The first result's array after the run. -/
theorem final_y : (dats m 0 c).arrAt 9 (cfgs 0).N
    = rY (rDeq (aX m c)) (rLo (aW m c) (aS m c) (aZ m c)) (rHi (aW m c) (aS m c) (aZ m c)) (aX m c) (aL1 m c) (aL2 m c) := by
  refine (dats m 0 c).arrAt_eq_of_covers 9 _ (by decide +kernel) (fun t hf y => ?_)
  have ht : t.val % 9 = 8 := by
    have := (flush9 t).symm.trans hf
    simpa using this
  obtain ⟨r, n, rfl⟩ : ∃ (r : Fin 256) (n : Fin 1920), y = ix2 r n := ⟨y 0, y 1, by funext a; match a with | ⟨0, _⟩ => rfl | ⟨1, _⟩ => rfl⟩
  have he : ((win0_9.blk t).view.emb (ix2 r n) : S3072x1920.Idx) = ix2 (tok t r) n := by blk_ext [(idx_o t).1]
  blk_simp
  exact (y_blk m c t ht r n).trans (congrArg _ he.symm)

/-- The second result's. -/
theorem final_codes : (dats m 0 c).arrAt 10 (cfgs 0).N = rPacked (rCode (aX m c)) := by
  refine (dats m 0 c).arrAt_eq_of_covers 10 _ (by decide +kernel) (fun t hf y => ?_)
  obtain ⟨r, n, rfl⟩ : ∃ (r : Fin 256) (n : Fin 640), y = ix2 r n := ⟨y 0, y 1, by funext a; match a with | ⟨0, _⟩ => rfl | ⟨1, _⟩ => rfl⟩
  have he : ((win0_10.blk t).view.emb (ix2 r n) : S3072x5760.Idx) = ix2 (tok t r) ⟨640 * (t.val % 9) + n.val, by omega⟩ := by
    blk_ext [(idx_o t).2.1]
  blk_simp
  refine (codes_blk m c t r n).trans (Eq.trans ?_ (congrArg _ he.symm))
  refine Eq.trans ?_ (rPacked_row (aX m c) (tok t r) _).symm
  refine congrArg₂ (fun a b => Quant.pack (code (aX m c) (tok t r) a) (code (aX m c) (tok t r) b)) (Fin.ext ?_) (Fin.ext ?_)
  · show 1280 * (t.val % 9) + 2 * n.val = 2 * (640 * (t.val % 9) + n.val)
    omega
  · show 1280 * (t.val % 9) + (2 * n.val + 1) = 1 + 2 * (640 * (t.val % 9) + n.val)
    omega

/-- The third result's. -/
theorem final_scales : (dats m 0 c).arrAt 11 (cfgs 0).N = rScales (rScale (aX m c)) := by
  refine (dats m 0 c).arrAt_eq_of_covers 11 _ (by decide +kernel) (fun t hf y => ?_)
  obtain ⟨r, g, rfl⟩ : ∃ (r : Fin 256) (g : Fin 180), y = ix2 r g := ⟨y 0, y 1, by funext a; match a with | ⟨0, _⟩ => rfl | ⟨1, _⟩ => rfl⟩
  have he : ((win0_11.blk t).view.emb (ix2 r g) : S3072x180.Idx) = ix2 (tok t r) g := by blk_ext [(idx_o t).2.2]
  blk_simp
  have e1 := (pay21_at (scaleT m c (t.val / 9)) g r).trans (scaleT_at m c t g r)
  have e2 := (rScales_row (aX m c) (tok t r) g).symm.trans (congrArg (rScales (rScale (aX m c))) he.symm)
  have e3 : (dats m 0 c).after 11 t = k0_pay21 (F := Ideal) (scaleT m c (t.val / 9)) := by dsimp only [dats]
  refine Eq.trans ?_ e2
  rw [e3]
  exact e1

/-- The kernel terminates with its three results at these terms and its arguments unchanged. -/
theorem run_named (ρ : Dev nD → PrngReg) :
    θ_run defs (onTc (τ := τ) (main (F := Ideal))) ⟨m, fun _ => 0, ρ⟩ fun r => ∀ c : Dev nD,
      r.2.mem ((c.tc : Thread nD τ).loc main_v14_0) = rY (rDeq (aX m c)) (rLo (aW m c) (aS m c) (aZ m c)) (rHi (aW m c) (aS m c) (aZ m c)) (aX m c) (aL1 m c) (aL2 m c)
      ∧ r.2.mem ((c.tc : Thread nD τ).loc main_v14_1) = rPacked (rCode (aX m c))
      ∧ r.2.mem ((c.tc : Thread nD τ).loc main_v14_2) = rScales (rScale (aX m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run_main m ρ)
  have rest := (h.1 c).2
  exact ⟨((h.1 c).1 (9 : Fin 12)).trans (final_y m c), ((h.1 c).1 (10 : Fin 12)).trans (final_codes m c),
    ((h.1 c).1 (11 : Fin 12)).trans (final_scales m c),
    (rest main_arg0 (Pipeline.mem_restRefs_of main_arg0 (by decide) (by decide))).trans (V_main_arg0 m c),
    final_arg1 m h.1 c,
    (rest main_arg2 (Pipeline.mem_restRefs_of main_arg2 (by decide) (by decide))).trans (V_main_arg2 m c),
    (rest main_arg3 (Pipeline.mem_restRefs_of main_arg3 (by decide) (by decide))).trans (V_main_arg3 m c),
    (rest main_arg4 (Pipeline.mem_restRefs_of main_arg4 (by decide) (by decide))).trans (V_main_arg4 m c),
    (rest main_arg5 (Pipeline.mem_restRefs_of main_arg5 (by decide) (by decide))).trans (V_main_arg5 m c)⟩

end Cert.KernelIdeal.Hand

end
-- ==== Proof.RefRun.lean ====
/- The reference's run, its three results under the names of RefTerm. -/
module

public import proofs.«01_k».proof.Proof.RefTerm

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

/-- The reference's arguments. -/
abbrev bX : FVec Ideal S2x1536x11520 .bf16 := m ((c : Thread nD τ).loc main_arg0)
@[inherit_doc bX] abbrev bW : IVec S11520x960 8 := m ((c : Thread nD τ).loc main_arg1)
@[inherit_doc bX] abbrev bS : FVec Ideal S180x1920 .f32 := m ((c : Thread nD τ).loc main_arg2)
@[inherit_doc bX] abbrev bZ : FVec Ideal S180x1920 .bf16 := m ((c : Thread nD τ).loc main_arg3)
@[inherit_doc bX] abbrev bL1 : FVec Ideal S11520x64 .bf16 := m ((c : Thread nD τ).loc main_arg4)
@[inherit_doc bX] abbrev bL2 : FVec Ideal S64x1920 .bf16 := m ((c : Thread nD τ).loc main_arg5)

/-- The first result's term. -/
theorem out0_eq : Cert.ReferenceIdeal.Value.res_out0 (F := Ideal) m c
    = rY (rDeq (bX m c)) (rLo (bW m c) (bS m c) (bZ m c)) (rHi (bW m c) (bS m c) (bZ m c)) (bX m c) (bL1 m c) (bL2 m c) := by
  unfold Cert.ReferenceIdeal.Value.res_out0 Cert.ReferenceIdeal.Value.res_main_v75 rY rDeq rDeqOf rCode rCodeOf rScale rScaleOf rMax rX rLo rHi
  rfl

/-- The reference terminates with its three results at these terms and its arguments unchanged. -/
theorem run_named (ρ : Dev nD → PrngReg) :
    θ_run defs (onTc (τ := τ) (main (F := Ideal))) ⟨m, fun _ => 0, ρ⟩ fun r => ∀ c : Dev nD,
      r.2.mem ((c.tc : Thread nD τ).loc main_v75) = rY (rDeq (bX m c)) (rLo (bW m c) (bS m c) (bZ m c)) (rHi (bW m c) (bS m c) (bZ m c)) (bX m c) (bL1 m c) (bL2 m c)
      ∧ r.2.mem ((c.tc : Thread nD τ).loc main_v76) = rPacked (rCode (bX m c))
      ∧ r.2.mem ((c.tc : Thread nD τ).loc main_v77) = rScales (rScale (bX m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans (out0_eq m c), ?_, ?_, (h c).2.2.2⟩) (Cert.ReferenceIdeal.Value.run (F := Ideal) m ρ)
  · unfold rPacked rCode rCodeOf rScale rScaleOf rMax rX
    exact (h c).2.1
  · unfold rScales rScale rScaleOf rMax rX
    exact (h c).2.2.1

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Track
public import proofs.«01_k».proof.Proof.Final
public import proofs.«01_k».proof.Proof.RefRun
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The kernel as printed terminates with its arguments unchanged and every counter at zero. -/
theorem frame_p : Cert.quiescent_Kernel (hKernel := Cert.Kernel.Gen.facts) := fun m g _ =>
  Cert.Kernel.Hand.run_args (F := Bits) m g

/-- So does its idealization. -/
theorem frame_pi : Cert.quiescent_KernelIdeal (hKernelIdeal := Cert.KernelIdeal.Gen.facts) := fun m g _ =>
  Cert.KernelIdeal.Hand.run_args (F := Ideal) m g

/-- So does the reference, which declares no semaphore. -/
theorem frame_ri : Cert.quiescent_ReferenceIdeal (hReferenceIdeal := Cert.ReferenceIdeal.Gen.facts) := fun m g _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m g)

/-- The idealization's rules hold at the shapes the kernel uses them at. -/
theorem preserves : Cert.preserves_Kernel_KernelIdeal :=
  ⟨IdealRules.bf16_pair.statement Cert.KernelIdeal.S1280x256 Cert.KernelIdeal.S640x256,
    IdealRules.bf16_pair.statement Cert.KernelIdeal.S320x256 Cert.KernelIdeal.S160x256,
    IdealRules.bf16_pair.packStatement _, IdealRules.bf16_pair.packStatement _,
    IdealRules.bf16_pair.statement Cert.KernelIdeal.S1920x256 Cert.KernelIdeal.S960x256⟩

/-- From equal arguments the idealized kernel and the reference end with equal results, all three of them. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, Cert.KernelIdeal.Hand.run_named m g,
    (θ_run Cert.ReferenceIdeal.defs _ _).mono (fun r h c => ?_) (Cert.ReferenceIdeal.Hand.run_named m' g')⟩
  obtain ⟨h0, h1, h2, h3, h4, h5⟩ := hargs c
  have hr := h c
  simp only [Cert.ReferenceIdeal.Hand.bX, Cert.ReferenceIdeal.Hand.bW, Cert.ReferenceIdeal.Hand.bS,
    Cert.ReferenceIdeal.Hand.bZ, Cert.ReferenceIdeal.Hand.bL1, Cert.ReferenceIdeal.Hand.bL2] at hr
  refine ⟨hr.1.trans ?_, hr.2.1.trans ?_, hr.2.2.1.trans ?_, hr.2.2.2⟩
  · rw [h0, h1, h2, h3, h4, h5]
  · rw [h0]
  · rw [h0]

/-- Everything claimed. -/
theorem claim : Cert.Claim := ⟨Cert.Kernel.Gen.facts, Cert.KernelIdeal.Gen.facts, Cert.ReferenceIdeal.Gen.facts,
  frame_p, frame_pi, frame_ri, preserves, algebraic⟩

end Cert.Proof

end
